-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x91 : Shape := ⟨2, ![20000, 91]⟩
abbrev S20000x4 : Shape := ⟨2, ![20000, 4]⟩
abbrev S_ : Shape := ⟨0, ![]⟩
abbrev S1820000 : Shape := ⟨1, ![1820000]⟩
abbrev S40x45500 : Shape := ⟨2, ![40, 45500]⟩
abbrev S40x1000 : Shape := ⟨2, ![40, 1000]⟩
abbrev S40 : Shape := ⟨1, ![40]⟩
abbrev S40x1 : Shape := ⟨2, ![40, 1]⟩
abbrev S40000 : Shape := ⟨1, ![40000]⟩
abbrev S1000 : Shape := ⟨1, ![1000]⟩
abbrev S1000x1 : Shape := ⟨2, ![1000, 1]⟩
abbrev S1000x4 : Shape := ⟨2, ![1000, 4]⟩
abbrev S1024 : Shape := ⟨1, ![1024]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S300 : Shape := ⟨1, ![300]⟩
abbrev S300x1 : Shape := ⟨2, ![300, 1]⟩
abbrev S300x4 : Shape := ⟨2, ![300, 4]⟩

abbrev nBuf : Space → Nat
  | .hbm => 179
  | .vmem => 16
  | .smem => 0
  | _ => 0

abbrev hbmTy0_0 (i : Nat) : BufTy := match i % 128 with
  | 0 => ⟨S20000x91, .f32⟩
  | 1 => ⟨S20000x4, .f32⟩
  | 2 => ⟨S20000x4, .f32⟩
  | 3 => ⟨S20000x91, .f32⟩
  | 4 => ⟨S20000x91, .f32⟩
  | 5 => ⟨S_, .f32⟩
  | 6 => ⟨S20000x91, .f32⟩
  | 7 => ⟨S20000x91, .f32⟩
  | 8 => ⟨S_, .f32⟩
  | 9 => ⟨S20000x91, .f32⟩
  | 10 => ⟨S20000x91, .f32⟩
  | 11 => ⟨S1820000, .f32⟩
  | 12 => ⟨S_, .f32⟩
  | 13 => ⟨S1820000, .f32⟩
  | 14 => ⟨S1820000, .i1⟩
  | 15 => ⟨S_, .f32⟩
  | 16 => ⟨S_, .f32⟩
  | 17 => ⟨S1820000, .f32⟩
  | 18 => ⟨S1820000, .f32⟩
  | 19 => ⟨S40x45500, .f32⟩
  | 20 => ⟨S40x1000, .f32⟩
  | 21 => ⟨S40x1000, .i32⟩
  | 22 => ⟨S40, .i32⟩
  | 23 => ⟨S_, .i32⟩
  | 24 => ⟨S40, .i32⟩
  | 25 => ⟨S40, .i32⟩
  | 26 => ⟨S40x1, .i32⟩
  | 27 => ⟨S40x1000, .i32⟩
  | 28 => ⟨S40x1000, .i32⟩
  | 29 => ⟨S40000, .f32⟩
  | 30 => ⟨S1000, .f32⟩
  | 31 => ⟨S1000, .i32⟩
  | 32 => ⟨S40000, .i32⟩
  | 33 => ⟨S_, .i32⟩
  | 34 => ⟨S1000, .i32⟩
  | 35 => ⟨S1000, .i1⟩
  | 36 => ⟨S_, .i32⟩
  | 37 => ⟨S1000, .i32⟩
  | 38 => ⟨S1000, .i32⟩
  | 39 => ⟨S1000, .i32⟩
  | 40 => ⟨S1000x1, .i32⟩
  | 41 => ⟨S1000, .i32⟩
  | 42 => ⟨S_, .i32⟩
  | 43 => ⟨S_, .i32⟩
  | 44 => ⟨S1000, .i32⟩
  | 45 => ⟨S1000, .i32⟩
  | 46 => ⟨S1000, .i32⟩
  | 47 => ⟨S_, .i32⟩
  | 48 => ⟨S1000, .i32⟩
  | 49 => ⟨S1000, .i1⟩
  | 50 => ⟨S1000, .i32⟩
  | 51 => ⟨S1000, .i32⟩
  | 52 => ⟨S_, .i32⟩
  | 53 => ⟨S1000, .i32⟩
  | 54 => ⟨S1000, .i1⟩
  | 55 => ⟨S1000, .i1⟩
  | 56 => ⟨S_, .i32⟩
  | 57 => ⟨S1000, .i32⟩
  | 58 => ⟨S1000, .i32⟩
  | 59 => ⟨S1000, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1000, .i32⟩
  | 67 => ⟨S1000, .i32⟩
  | 68 => ⟨S_, .i32⟩
  | 69 => ⟨S1000, .i32⟩
  | 70 => ⟨S1000, .i1⟩
  | 71 => ⟨S_, .i32⟩
  | 72 => ⟨S1000, .i32⟩
  | 73 => ⟨S1000, .i1⟩
  | 74 => ⟨S_, .i32⟩
  | 75 => ⟨S_, .i1⟩
  | 76 => ⟨S1000, .i1⟩
  | 77 => ⟨S1000, .i1⟩
  | 78 => ⟨S1000, .i1⟩
  | 79 => ⟨S1000, .i32⟩
  | 80 => ⟨S1000, .i32⟩
  | 81 => ⟨S1000, .i32⟩
  | 82 => ⟨S_, .i32⟩
  | 83 => ⟨S1000, .i32⟩
  | 84 => ⟨S1000, .i1⟩
  | 85 => ⟨S_, .i32⟩
  | 86 => ⟨S1000, .i32⟩
  | 87 => ⟨S1000, .i32⟩
  | 88 => ⟨S1000, .i32⟩
  | 89 => ⟨S1000x1, .i32⟩
  | 90 => ⟨S1000x4, .f32⟩
  | 91 => ⟨S_, .i32⟩
  | 92 => ⟨S1000, .i32⟩
  | 93 => ⟨S1000, .i1⟩
  | 94 => ⟨S_, .i32⟩
  | 95 => ⟨S1000, .i32⟩
  | 96 => ⟨S1000, .i32⟩
  | 97 => ⟨S1000, .i32⟩
  | 98 => ⟨S1000x1, .i32⟩
  | 99 => ⟨S1000x4, .f32⟩
  | 100 => ⟨S_, .i32⟩
  | 101 => ⟨S_, .f32⟩
  | 102 => ⟨S1024, .f32⟩
  | 103 => ⟨S8x128, .f32⟩
  | 104 => ⟨S_, .i32⟩
  | 105 => ⟨S_, .i32⟩
  | 106 => ⟨S1024, .i32⟩
  | 107 => ⟨S8x128, .i32⟩
  | 108 => ⟨S1000x1, .f32⟩
  | 109 => ⟨S1000, .f32⟩
  | 110 => ⟨S_, .i32⟩
  | 111 => ⟨S_, .f32⟩
  | 112 => ⟨S1024, .f32⟩
  | 113 => ⟨S8x128, .f32⟩
  | 114 => ⟨S1000x1, .f32⟩
  | 115 => ⟨S1000, .f32⟩
  | 116 => ⟨S_, .i32⟩
  | 117 => ⟨S_, .f32⟩
  | 118 => ⟨S1024, .f32⟩
  | 119 => ⟨S8x128, .f32⟩
  | 120 => ⟨S1000x1, .f32⟩
  | 121 => ⟨S1000, .f32⟩
  | 122 => ⟨S_, .i32⟩
  | 123 => ⟨S_, .f32⟩
  | 124 => ⟨S1024, .f32⟩
  | 125 => ⟨S8x128, .f32⟩
  | 126 => ⟨S1000x1, .f32⟩
  | 127 => ⟨S1000, .f32⟩
  | _ => ⟨S20000x91, .f32⟩

abbrev hbmTy0_1 (i : Nat) : BufTy := match i % 128 with
  | 0 => ⟨S_, .i32⟩
  | 1 => ⟨S_, .f32⟩
  | 2 => ⟨S1024, .f32⟩
  | 3 => ⟨S8x128, .f32⟩
  | 4 => ⟨S1000x1, .f32⟩
  | 5 => ⟨S1000, .f32⟩
  | 6 => ⟨S_, .i32⟩
  | 7 => ⟨S_, .f32⟩
  | 8 => ⟨S1024, .f32⟩
  | 9 => ⟨S8x128, .f32⟩
  | 10 => ⟨S1000x1, .f32⟩
  | 11 => ⟨S1000, .f32⟩
  | 12 => ⟨S_, .i32⟩
  | 13 => ⟨S_, .f32⟩
  | 14 => ⟨S1024, .f32⟩
  | 15 => ⟨S8x128, .f32⟩
  | 16 => ⟨S1000x1, .f32⟩
  | 17 => ⟨S1000, .f32⟩
  | 18 => ⟨S_, .i32⟩
  | 19 => ⟨S_, .f32⟩
  | 20 => ⟨S1024, .f32⟩
  | 21 => ⟨S8x128, .f32⟩
  | 22 => ⟨S1000x1, .f32⟩
  | 23 => ⟨S1000, .f32⟩
  | 24 => ⟨S_, .i32⟩
  | 25 => ⟨S_, .f32⟩
  | 26 => ⟨S1024, .f32⟩
  | 27 => ⟨S8x128, .f32⟩
  | 28 => ⟨S8x128, .f32⟩
  | 29 => ⟨S8x128, .f32⟩
  | 30 => ⟨S8x128, .f32⟩
  | 31 => ⟨S8x128, .f32⟩
  | 32 => ⟨S8x128, .f32⟩
  | 33 => ⟨S8x128, .i32⟩
  | 34 => ⟨S1024, .f32⟩
  | 35 => ⟨S300, .f32⟩
  | 36 => ⟨S1024, .f32⟩
  | 37 => ⟨S300, .f32⟩
  | 38 => ⟨S1024, .f32⟩
  | 39 => ⟨S300, .f32⟩
  | 40 => ⟨S1024, .f32⟩
  | 41 => ⟨S300, .f32⟩
  | 42 => ⟨S1024, .f32⟩
  | 43 => ⟨S300, .f32⟩
  | 44 => ⟨S1024, .i32⟩
  | 45 => ⟨S300, .i32⟩
  | 46 => ⟨S300x1, .f32⟩
  | 47 => ⟨S300x1, .f32⟩
  | 48 => ⟨S300x1, .f32⟩
  | 49 => ⟨S300x1, .f32⟩
  | 50 => ⟨S300x4, .f32⟩
  | _ => ⟨S20000x91, .f32⟩

abbrev hbmTy (i : Nat) : BufTy := match i / 128 with
  | 0 => hbmTy0_0 i
  | 1 => hbmTy0_1 i
  | _ => ⟨S20000x91, .f32⟩

abbrev bufTy : (tb : Table) → Fin (tcTables nBuf tb) → BufTy
  | .hbm, ⟨i, _⟩ => hbmTy i
  | .local _ .vmem, ⟨0, _⟩ => ⟨S8x128, .f32⟩
  | .local _ .vmem, ⟨1, _⟩ => ⟨S8x128, .i32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .i32⟩
  | _, _ => ⟨S20000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_values : Ref sig .tc := ⟨.hbm, 20, rfl⟩
abbrev main_indices : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_values_3 : Ref sig .tc := ⟨.hbm, 30, rfl⟩
abbrev main_indices_4 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v26 : Ref sig .tc := ⟨.hbm, 59, rfl⟩
abbrev main_c_8 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v27 : Ref sig .tc := ⟨.hbm, 81, rfl⟩
abbrev main_c_9 : Ref sig .tc := ⟨.hbm, 82, rfl⟩
abbrev main_v28 : Ref sig .tc := ⟨.hbm, 83, rfl⟩
abbrev main_v29 : Ref sig .tc := ⟨.hbm, 84, rfl⟩
abbrev main_c_10 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_c_11 : Ref sig .tc := ⟨.hbm, 91, rfl⟩
abbrev main_v35 : Ref sig .tc := ⟨.hbm, 92, rfl⟩
abbrev main_v36 : Ref sig .tc := ⟨.hbm, 93, rfl⟩
abbrev main_c_12 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_c_13 : Ref sig .tc := ⟨.hbm, 100, rfl⟩
abbrev main_call3_v0 : Ref sig .tc := ⟨.hbm, 101, rfl⟩
abbrev main_v42 : Ref sig .tc := ⟨.hbm, 102, rfl⟩
abbrev main_v43 : Ref sig .tc := ⟨.hbm, 103, rfl⟩
abbrev main_c_14 : Ref sig .tc := ⟨.hbm, 104, rfl⟩
abbrev main_call4_v0 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_c_15 : Ref sig .tc := ⟨.hbm, 110, rfl⟩
abbrev main_call5_v0 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_c_16 : Ref sig .tc := ⟨.hbm, 116, rfl⟩
abbrev main_call6_v0 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_c_17 : Ref sig .tc := ⟨.hbm, 122, rfl⟩
abbrev main_call7_v0 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_c_18 : Ref sig .tc := ⟨.hbm, 128, rfl⟩
abbrev main_call8_v0 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_c_19 : Ref sig .tc := ⟨.hbm, 134, rfl⟩
abbrev main_call9_v0 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_c_20 : Ref sig .tc := ⟨.hbm, 140, rfl⟩
abbrev main_call10_v0 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_c_21 : Ref sig .tc := ⟨.hbm, 146, rfl⟩
abbrev main_call11_v0 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_c_22 : Ref sig .tc := ⟨.hbm, 152, rfl⟩
abbrev main_call12_v0 : Ref sig .tc := ⟨.hbm, 153, rfl⟩
abbrev main_v76 : Ref sig .tc := ⟨.hbm, 154, rfl⟩
abbrev main_v77 : Ref sig .tc := ⟨.hbm, 155, rfl⟩
abbrev main_v78_0 : Ref sig .tc := ⟨.hbm, 156, rfl⟩
abbrev main_v78_1 : Ref sig .tc := ⟨.hbm, 157, rfl⟩
abbrev main_v78_2 : Ref sig .tc := ⟨.hbm, 158, rfl⟩
abbrev main_v78_3 : Ref sig .tc := ⟨.hbm, 159, rfl⟩
abbrev main_v78_4 : Ref sig .tc := ⟨.hbm, 160, rfl⟩
abbrev main_v78_5 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v97 : BitVec 32 := Scalar.addi c0_i32 c300_i32
  let c1_i32 : BitVec 32 := 1#32
  ⟨c0_i32, v97, c1_i32⟩
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S20000x91 : Shape := ⟨2, ![20000, 91]⟩
abbrev S20000x4 : Shape := ⟨2, ![20000, 4]⟩
abbrev S_ : Shape := ⟨0, ![]⟩
abbrev S1820000 : Shape := ⟨1, ![1820000]⟩
abbrev S1000 : Shape := ⟨1, ![1000]⟩
abbrev S1000x1 : Shape := ⟨2, ![1000, 1]⟩
abbrev S1000x4 : Shape := ⟨2, ![1000, 4]⟩
abbrev S300 : Shape := ⟨1, ![300]⟩
abbrev S1 : Shape := ⟨1, ![1]⟩
abbrev S1x4 : Shape := ⟨2, ![1, 4]⟩
abbrev S4 : Shape := ⟨1, ![4]⟩
abbrev S2 : Shape := ⟨1, ![2]⟩
abbrev S1000x2 : Shape := ⟨2, ![1000, 2]⟩
abbrev S1x2 : Shape := ⟨2, ![1, 2]⟩
abbrev S300x1 : Shape := ⟨2, ![300, 1]⟩
abbrev S300x4 : Shape := ⟨2, ![300, 4]⟩

abbrev nBuf : Space → Nat
  | .hbm => 364
  | .vmem => 0
  | .smem => 0
  | _ => 0

abbrev hbmTy0_0 (i : Nat) : BufTy := match i % 128 with
  | 0 => ⟨S20000x91, .f32⟩
  | 1 => ⟨S20000x4, .f32⟩
  | 2 => ⟨S20000x4, .f32⟩
  | 3 => ⟨S20000x91, .f32⟩
  | 4 => ⟨S20000x91, .f32⟩
  | 5 => ⟨S_, .f32⟩
  | 6 => ⟨S20000x91, .f32⟩
  | 7 => ⟨S20000x91, .f32⟩
  | 8 => ⟨S_, .f32⟩
  | 9 => ⟨S20000x91, .f32⟩
  | 10 => ⟨S20000x91, .f32⟩
  | 11 => ⟨S1820000, .f32⟩
  | 12 => ⟨S_, .f32⟩
  | 13 => ⟨S1820000, .f32⟩
  | 14 => ⟨S1820000, .i1⟩
  | 15 => ⟨S_, .f32⟩
  | 16 => ⟨S_, .f32⟩
  | 17 => ⟨S1820000, .f32⟩
  | 18 => ⟨S1820000, .f32⟩
  | 19 => ⟨S1000, .f32⟩
  | 20 => ⟨S1000, .i32⟩
  | 21 => ⟨S_, .i32⟩
  | 22 => ⟨S_, .i32⟩
  | 23 => ⟨S1000, .i32⟩
  | 24 => ⟨S1000, .i32⟩
  | 25 => ⟨S1000, .i32⟩
  | 26 => ⟨S_, .i32⟩
  | 27 => ⟨S1000, .i32⟩
  | 28 => ⟨S1000, .i1⟩
  | 29 => ⟨S1000, .i32⟩
  | 30 => ⟨S1000, .i32⟩
  | 31 => ⟨S_, .i32⟩
  | 32 => ⟨S1000, .i32⟩
  | 33 => ⟨S1000, .i1⟩
  | 34 => ⟨S1000, .i1⟩
  | 35 => ⟨S_, .i32⟩
  | 36 => ⟨S1000, .i32⟩
  | 37 => ⟨S1000, .i32⟩
  | 38 => ⟨S1000, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S1000, .i32⟩
  | 46 => ⟨S1000, .i32⟩
  | 47 => ⟨S_, .i32⟩
  | 48 => ⟨S1000, .i32⟩
  | 49 => ⟨S1000, .i1⟩
  | 50 => ⟨S_, .i32⟩
  | 51 => ⟨S1000, .i32⟩
  | 52 => ⟨S1000, .i1⟩
  | 53 => ⟨S_, .i32⟩
  | 54 => ⟨S_, .i1⟩
  | 55 => ⟨S1000, .i1⟩
  | 56 => ⟨S1000, .i1⟩
  | 57 => ⟨S1000, .i1⟩
  | 58 => ⟨S1000, .i32⟩
  | 59 => ⟨S1000, .i32⟩
  | 60 => ⟨S1000, .i32⟩
  | 61 => ⟨S_, .i32⟩
  | 62 => ⟨S1000, .i32⟩
  | 63 => ⟨S1000, .i1⟩
  | 64 => ⟨S_, .i32⟩
  | 65 => ⟨S1000, .i32⟩
  | 66 => ⟨S1000, .i32⟩
  | 67 => ⟨S1000, .i32⟩
  | 68 => ⟨S1000x1, .i32⟩
  | 69 => ⟨S1000x4, .f32⟩
  | 70 => ⟨S_, .i32⟩
  | 71 => ⟨S1000, .i32⟩
  | 72 => ⟨S1000, .i1⟩
  | 73 => ⟨S_, .i32⟩
  | 74 => ⟨S1000, .i32⟩
  | 75 => ⟨S1000, .i32⟩
  | 76 => ⟨S1000, .i32⟩
  | 77 => ⟨S1000x1, .i32⟩
  | 78 => ⟨S1000x4, .f32⟩
  | 79 => ⟨S1000x1, .f32⟩
  | 80 => ⟨S1000, .f32⟩
  | 81 => ⟨S1000x1, .f32⟩
  | 82 => ⟨S1000, .f32⟩
  | 83 => ⟨S1000, .f32⟩
  | 84 => ⟨S1000x1, .f32⟩
  | 85 => ⟨S1000, .f32⟩
  | 86 => ⟨S1000x1, .f32⟩
  | 87 => ⟨S1000, .f32⟩
  | 88 => ⟨S1000, .f32⟩
  | 89 => ⟨S1000x1, .f32⟩
  | 90 => ⟨S1000, .f32⟩
  | 91 => ⟨S_, .f32⟩
  | 92 => ⟨S1000, .f32⟩
  | 93 => ⟨S1000, .f32⟩
  | 94 => ⟨S1000, .f32⟩
  | 95 => ⟨S1000x1, .f32⟩
  | 96 => ⟨S1000, .f32⟩
  | 97 => ⟨S_, .f32⟩
  | 98 => ⟨S1000, .f32⟩
  | 99 => ⟨S1000, .f32⟩
  | 100 => ⟨S1000, .f32⟩
  | 101 => ⟨S1000x1, .f32⟩
  | 102 => ⟨S1000, .f32⟩
  | 103 => ⟨S1000x1, .f32⟩
  | 104 => ⟨S1000, .f32⟩
  | 105 => ⟨S1000x1, .f32⟩
  | 106 => ⟨S1000, .f32⟩
  | 107 => ⟨S_, .f32⟩
  | 108 => ⟨S1000, .f32⟩
  | 109 => ⟨S1000, .f32⟩
  | 110 => ⟨S1000x1, .f32⟩
  | 111 => ⟨S1000, .f32⟩
  | 112 => ⟨S_, .f32⟩
  | 113 => ⟨S1000, .f32⟩
  | 114 => ⟨S1000, .f32⟩
  | 115 => ⟨S1000, .f32⟩
  | 116 => ⟨S1000, .f32⟩
  | 117 => ⟨S1000, .f32⟩
  | 118 => ⟨S1000, .f32⟩
  | 119 => ⟨S1000, .f32⟩
  | 120 => ⟨S1000, .f32⟩
  | 121 => ⟨S1000, .f32⟩
  | 122 => ⟨S1000, .f32⟩
  | 123 => ⟨S_, .f32⟩
  | 124 => ⟨S1000, .f32⟩
  | 125 => ⟨S1000, .f32⟩
  | 126 => ⟨S1000, .f32⟩
  | 127 => ⟨S_, .f32⟩
  | _ => ⟨S20000x91, .f32⟩

abbrev hbmTy0_1 (i : Nat) : BufTy := match i % 128 with
  | 0 => ⟨S1000, .f32⟩
  | 1 => ⟨S1000, .f32⟩
  | 2 => ⟨S1000, .f32⟩
  | 3 => ⟨S_, .f32⟩
  | 4 => ⟨S1000, .f32⟩
  | 5 => ⟨S1000, .f32⟩
  | 6 => ⟨S1000, .f32⟩
  | 7 => ⟨S_, .f32⟩
  | 8 => ⟨S1000, .f32⟩
  | 9 => ⟨S1000, .f32⟩
  | 10 => ⟨S1000, .f32⟩
  | 11 => ⟨S1000x1, .f32⟩
  | 12 => ⟨S1000x1, .f32⟩
  | 13 => ⟨S1000x1, .f32⟩
  | 14 => ⟨S1000x1, .f32⟩
  | 15 => ⟨S1000x4, .f32⟩
  | 16 => ⟨S1000x1, .f32⟩
  | 17 => ⟨S1000, .f32⟩
  | 18 => ⟨S_, .f32⟩
  | 19 => ⟨S_, .f32⟩
  | 20 => ⟨S_, .f32⟩
  | 21 => ⟨S1000, .f32⟩
  | 22 => ⟨S1000, .f32⟩
  | 23 => ⟨S_, .f32⟩
  | 24 => ⟨S1000, .f32⟩
  | 25 => ⟨S1000, .f32⟩
  | 26 => ⟨S1000x1, .f32⟩
  | 27 => ⟨S1000, .f32⟩
  | 28 => ⟨S_, .f32⟩
  | 29 => ⟨S_, .f32⟩
  | 30 => ⟨S_, .f32⟩
  | 31 => ⟨S1000, .f32⟩
  | 32 => ⟨S1000, .f32⟩
  | 33 => ⟨S_, .f32⟩
  | 34 => ⟨S1000, .f32⟩
  | 35 => ⟨S1000, .f32⟩
  | 36 => ⟨S1000x1, .f32⟩
  | 37 => ⟨S1000, .f32⟩
  | 38 => ⟨S_, .f32⟩
  | 39 => ⟨S_, .f32⟩
  | 40 => ⟨S_, .f32⟩
  | 41 => ⟨S1000, .f32⟩
  | 42 => ⟨S1000, .f32⟩
  | 43 => ⟨S_, .f32⟩
  | 44 => ⟨S1000, .f32⟩
  | 45 => ⟨S1000, .f32⟩
  | 46 => ⟨S1000x1, .f32⟩
  | 47 => ⟨S1000, .f32⟩
  | 48 => ⟨S_, .f32⟩
  | 49 => ⟨S_, .f32⟩
  | 50 => ⟨S_, .f32⟩
  | 51 => ⟨S1000, .f32⟩
  | 52 => ⟨S1000, .f32⟩
  | 53 => ⟨S_, .f32⟩
  | 54 => ⟨S1000, .f32⟩
  | 55 => ⟨S1000, .f32⟩
  | 56 => ⟨S1000x1, .f32⟩
  | 57 => ⟨S1000x1, .f32⟩
  | 58 => ⟨S1000x1, .f32⟩
  | 59 => ⟨S1000x1, .f32⟩
  | 60 => ⟨S1000x4, .f32⟩
  | 61 => ⟨S1000, .f32⟩
  | 62 => ⟨S_, .f32⟩
  | 63 => ⟨S_, .f32⟩
  | 64 => ⟨S_, .f32⟩
  | 65 => ⟨S_, .f32⟩
  | 66 => ⟨S1000, .f32⟩
  | 67 => ⟨S1000, .f32⟩
  | 68 => ⟨S1000x1, .f32⟩
  | 69 => ⟨S1000x4, .f32⟩
  | 70 => ⟨S1000x4, .f32⟩
  | 71 => ⟨S_, .f32⟩
  | 72 => ⟨S1000, .f32⟩
  | 73 => ⟨S1000, .i1⟩
  | 74 => ⟨S_, .f32⟩
  | 75 => ⟨S_, .f32⟩
  | 76 => ⟨S1000, .f32⟩
  | 77 => ⟨S1000, .f32⟩
  | 78 => ⟨S_, .i32⟩
  | 79 => ⟨S300, .i32⟩
  | 80 => ⟨S_, .i32⟩
  | 81 => ⟨S_, .i32⟩
  | 82 => ⟨S1000x4, .f32⟩
  | 83 => ⟨S_, .i32⟩
  | 84 => ⟨S_, .i32⟩
  | 85 => ⟨S1000, .f32⟩
  | 86 => ⟨S300, .i32⟩
  | 87 => ⟨S_, .i32⟩
  | 88 => ⟨S_, .i1⟩
  | 89 => ⟨S_, .i32⟩
  | 90 => ⟨S_, .i32⟩
  | 91 => ⟨S1, .f32⟩
  | 92 => ⟨S1, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S1, .f32⟩
  | 100 => ⟨S_, .f32⟩
  | 101 => ⟨S_, .f32⟩
  | 102 => ⟨S_, .i1⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S1, .i32⟩
  | 113 => ⟨S300, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x4, .f32⟩
  | _ => ⟨S20000x91, .f32⟩

abbrev hbmTy0_2 (i : Nat) : BufTy := match i % 128 with
  | 0 => ⟨S4, .f32⟩
  | 1 => ⟨S1, .f32⟩
  | 2 => ⟨S_, .f32⟩
  | 3 => ⟨S1, .f32⟩
  | 4 => ⟨S_, .f32⟩
  | 5 => ⟨S_, .f32⟩
  | 6 => ⟨S1, .f32⟩
  | 7 => ⟨S_, .f32⟩
  | 8 => ⟨S1, .f32⟩
  | 9 => ⟨S_, .f32⟩
  | 10 => ⟨S_, .f32⟩
  | 11 => ⟨S_, .f32⟩
  | 12 => ⟨S1000x1, .f32⟩
  | 13 => ⟨S1000, .f32⟩
  | 14 => ⟨S1000x1, .f32⟩
  | 15 => ⟨S1000, .f32⟩
  | 16 => ⟨S1000, .f32⟩
  | 17 => ⟨S1000x1, .f32⟩
  | 18 => ⟨S1000, .f32⟩
  | 19 => ⟨S1000x1, .f32⟩
  | 20 => ⟨S1000, .f32⟩
  | 21 => ⟨S1000, .f32⟩
  | 22 => ⟨S1000, .f32⟩
  | 23 => ⟨S2, .f32⟩
  | 24 => ⟨S1000x2, .f32⟩
  | 25 => ⟨S1x2, .f32⟩
  | 26 => ⟨S1000x2, .f32⟩
  | 27 => ⟨S1000x2, .f32⟩
  | 28 => ⟨S2, .f32⟩
  | 29 => ⟨S1000x2, .f32⟩
  | 30 => ⟨S1x2, .f32⟩
  | 31 => ⟨S1000x2, .f32⟩
  | 32 => ⟨S1000x2, .f32⟩
  | 33 => ⟨S1000x2, .f32⟩
  | 34 => ⟨S_, .f32⟩
  | 35 => ⟨S1000x2, .f32⟩
  | 36 => ⟨S1000x2, .f32⟩
  | 37 => ⟨S1000x1, .f32⟩
  | 38 => ⟨S1000, .f32⟩
  | 39 => ⟨S1000x1, .f32⟩
  | 40 => ⟨S1000, .f32⟩
  | 41 => ⟨S1000, .f32⟩
  | 42 => ⟨S1000, .f32⟩
  | 43 => ⟨S1000, .f32⟩
  | 44 => ⟨S1000, .f32⟩
  | 45 => ⟨S_, .f32⟩
  | 46 => ⟨S1000, .f32⟩
  | 47 => ⟨S1000, .f32⟩
  | 48 => ⟨S1000, .f32⟩
  | 49 => ⟨S_, .f32⟩
  | 50 => ⟨S1000, .f32⟩
  | 51 => ⟨S1000, .i1⟩
  | 52 => ⟨S_, .f32⟩
  | 53 => ⟨S_, .f32⟩
  | 54 => ⟨S1000, .f32⟩
  | 55 => ⟨S1000, .f32⟩
  | 56 => ⟨S_, .i32⟩
  | 57 => ⟨S_, .i1⟩
  | 58 => ⟨S_, .i32⟩
  | 59 => ⟨S_, .i32⟩
  | 60 => ⟨S_, .i32⟩
  | 61 => ⟨S1, .i32⟩
  | 62 => ⟨S_, .f32⟩
  | 63 => ⟨S1000, .f32⟩
  | 64 => ⟨S_, .i32⟩
  | 65 => ⟨S_, .i32⟩
  | 66 => ⟨S_, .i32⟩
  | 67 => ⟨S300, .i32⟩
  | 68 => ⟨S300, .i1⟩
  | 69 => ⟨S_, .i32⟩
  | 70 => ⟨S300, .i32⟩
  | 71 => ⟨S300, .i32⟩
  | 72 => ⟨S300, .f32⟩
  | 73 => ⟨S_, .i32⟩
  | 74 => ⟨S300, .i32⟩
  | 75 => ⟨S300, .i1⟩
  | 76 => ⟨S_, .i32⟩
  | 77 => ⟨S300, .i32⟩
  | 78 => ⟨S300, .i32⟩
  | 79 => ⟨S300, .i32⟩
  | 80 => ⟨S300x1, .i32⟩
  | 81 => ⟨S300x4, .f32⟩
  | 82 => ⟨S300x1, .f32⟩
  | 83 => ⟨S300x4, .f32⟩
  | 84 => ⟨S300x4, .f32⟩
  | 85 => ⟨S_, .i32⟩
  | 86 => ⟨S300, .i32⟩
  | 87 => ⟨S300, .i1⟩
  | 88 => ⟨S_, .i32⟩
  | 89 => ⟨S300, .i32⟩
  | 90 => ⟨S300, .i32⟩
  | 91 => ⟨S300, .i32⟩
  | 92 => ⟨S300x1, .i32⟩
  | 93 => ⟨S300, .f32⟩
  | 94 => ⟨S300, .f32⟩
  | 95 => ⟨S_, .i32⟩
  | 96 => ⟨S300, .i32⟩
  | 97 => ⟨S300, .i1⟩
  | 98 => ⟨S_, .i32⟩
  | 99 => ⟨S300, .i32⟩
  | 100 => ⟨S300, .i32⟩
  | 101 => ⟨S300, .i32⟩
  | 102 => ⟨S300x1, .i32⟩
  | 103 => ⟨S300, .i32⟩
  | 104 => ⟨S_, .i32⟩
  | 105 => ⟨S_, .i32⟩
  | 106 => ⟨S300, .i32⟩
  | 107 => ⟨S300, .i32⟩
  | _ => ⟨S20000x91, .f32⟩

abbrev hbmTy (i : Nat) : BufTy := match i / 128 with
  | 0 => hbmTy0_0 i
  | 1 => hbmTy0_1 i
  | 2 => hbmTy0_2 i
  | _ => ⟨S20000x91, .f32⟩

abbrev bufTy : (tb : Table) → Fin (tcTables nBuf tb) → BufTy
  | .hbm, ⟨i, _⟩ => hbmTy i
  | _, _ => ⟨S20000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_c_3 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v11 : Ref sig .tc := ⟨.hbm, 60, rfl⟩
abbrev main_c_4 : Ref sig .tc := ⟨.hbm, 61, rfl⟩
abbrev main_v12 : Ref sig .tc := ⟨.hbm, 62, rfl⟩
abbrev main_v13 : Ref sig .tc := ⟨.hbm, 63, rfl⟩
abbrev main_c_5 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_6 : Ref sig .tc := ⟨.hbm, 70, rfl⟩
abbrev main_v19 : Ref sig .tc := ⟨.hbm, 71, rfl⟩
abbrev main_v20 : Ref sig .tc := ⟨.hbm, 72, rfl⟩
abbrev main_c_7 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_8 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_9 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_cst_10 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_11 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_12 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_cst_13 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_14 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_15 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_16 : Ref sig .tc := ⟨.hbm, 146, rfl⟩
abbrev main_cst_17 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_18 : Ref sig .tc := ⟨.hbm, 156, rfl⟩
abbrev main_cst_19 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_cst_20 : Ref sig .tc := ⟨.hbm, 166, rfl⟩
abbrev main_cst_21 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_cst_22 : Ref sig .tc := ⟨.hbm, 176, rfl⟩
abbrev main_cst_23 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_cst_24 : Ref sig .tc := ⟨.hbm, 190, rfl⟩
abbrev main_v101 : Ref sig .tc := ⟨.hbm, 191, rfl⟩
abbrev main_cst_25 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_cst_26 : Ref sig .tc := ⟨.hbm, 199, rfl⟩
abbrev main_v108 : Ref sig .tc := ⟨.hbm, 200, rfl⟩
abbrev main_v109 : Ref sig .tc := ⟨.hbm, 201, rfl⟩
abbrev main_cst_27 : Ref sig .tc := ⟨.hbm, 202, rfl⟩
abbrev main_call7_v0 : Ref sig .tc := ⟨.hbm, 203, rfl⟩
abbrev main_call7_v1 : Ref sig .tc := ⟨.hbm, 204, rfl⟩
abbrev main_v110 : Ref sig .tc := ⟨.hbm, 205, rfl⟩
abbrev main_c_28 : Ref sig .tc := ⟨.hbm, 206, rfl⟩
abbrev main_v111 : Ref sig .tc := ⟨.hbm, 207, rfl⟩
abbrev main_c_29 : Ref sig .tc := ⟨.hbm, 208, rfl⟩
abbrev main_c_30 : Ref sig .tc := ⟨.hbm, 209, rfl⟩
abbrev main_v112_0 : Ref sig .tc := ⟨.hbm, 210, rfl⟩
abbrev main_v112_1 : Ref sig .tc := ⟨.hbm, 211, rfl⟩
abbrev main_v112_2 : Ref sig .tc := ⟨.hbm, 212, rfl⟩
abbrev main_v112_3 : Ref sig .tc := ⟨.hbm, 213, rfl⟩
abbrev main_v112_4 : Ref sig .tc := ⟨.hbm, 214, rfl⟩
abbrev main_while0c_c_44 : Ref sig .tc := ⟨.hbm, 215, rfl⟩
abbrev main_while0c_v144 : Ref sig .tc := ⟨.hbm, 216, rfl⟩
abbrev main_while0b_c_44 : Ref sig .tc := ⟨.hbm, 217, rfl⟩
abbrev main_while0b_v144 : Ref sig .tc := ⟨.hbm, 218, rfl⟩
abbrev main_while0b_values_45 : Ref sig .tc := ⟨.hbm, 219, rfl⟩
abbrev main_while0b_indices_46 : Ref sig .tc := ⟨.hbm, 220, rfl⟩
abbrev main_while0b_v145 : Ref sig .tc := ⟨.hbm, 221, rfl⟩
abbrev main_while0b_c_47 : Ref sig .tc := ⟨.hbm, 222, rfl⟩
abbrev main_while0b_v146 : Ref sig .tc := ⟨.hbm, 223, rfl⟩
abbrev main_while0b_c_48 : Ref sig .tc := ⟨.hbm, 224, rfl⟩
abbrev main_while0b_v147 : Ref sig .tc := ⟨.hbm, 225, rfl⟩
abbrev main_while0b_v148 : Ref sig .tc := ⟨.hbm, 226, rfl⟩
abbrev main_while0b_v149 : Ref sig .tc := ⟨.hbm, 227, rfl⟩
abbrev main_while0b_v150 : Ref sig .tc := ⟨.hbm, 228, rfl⟩
abbrev main_while0b_cst_49 : Ref sig .tc := ⟨.hbm, 229, rfl⟩
abbrev main_while0b_v151 : Ref sig .tc := ⟨.hbm, 230, rfl⟩
abbrev main_while0b_c_50 : Ref sig .tc := ⟨.hbm, 231, rfl⟩
abbrev main_while0b_call8_v0 : Ref sig .tc := ⟨.hbm, 232, rfl⟩
abbrev main_while0b_v152 : Ref sig .tc := ⟨.hbm, 233, rfl⟩
abbrev main_while0b_c_51 : Ref sig .tc := ⟨.hbm, 234, rfl⟩
abbrev main_while0b_v153 : Ref sig .tc := ⟨.hbm, 235, rfl⟩
abbrev main_while0b_c_52 : Ref sig .tc := ⟨.hbm, 236, rfl⟩
abbrev main_while0b_v154 : Ref sig .tc := ⟨.hbm, 237, rfl⟩
abbrev main_while0b_v155 : Ref sig .tc := ⟨.hbm, 238, rfl⟩
abbrev main_while0b_v156 : Ref sig .tc := ⟨.hbm, 239, rfl⟩
abbrev main_while0b_v157 : Ref sig .tc := ⟨.hbm, 240, rfl⟩
abbrev main_while0b_v158 : Ref sig .tc := ⟨.hbm, 241, rfl⟩
abbrev main_while0b_c_53 : Ref sig .tc := ⟨.hbm, 242, rfl⟩
abbrev main_while0b_v159 : Ref sig .tc := ⟨.hbm, 243, rfl⟩
abbrev main_while0b_c_54 : Ref sig .tc := ⟨.hbm, 244, rfl⟩
abbrev main_while0b_v160 : Ref sig .tc := ⟨.hbm, 245, rfl⟩
abbrev main_while0b_v161 : Ref sig .tc := ⟨.hbm, 246, rfl⟩
abbrev main_while0b_c_55 : Ref sig .tc := ⟨.hbm, 247, rfl⟩
abbrev main_while0b_c_56 : Ref sig .tc := ⟨.hbm, 248, rfl⟩
abbrev main_while0b_v162 : Ref sig .tc := ⟨.hbm, 249, rfl⟩
abbrev main_while0b_c_57 : Ref sig .tc := ⟨.hbm, 250, rfl⟩
abbrev main_while0b_c_58 : Ref sig .tc := ⟨.hbm, 251, rfl⟩
abbrev main_while0b_v163 : Ref sig .tc := ⟨.hbm, 252, rfl⟩
abbrev main_while0b_c_59 : Ref sig .tc := ⟨.hbm, 253, rfl⟩
abbrev main_while0b_v164 : Ref sig .tc := ⟨.hbm, 254, rfl⟩
abbrev main_while0b_v165 : Ref sig .tc := ⟨.hbm, 255, rfl⟩
abbrev main_while0b_v166 : Ref sig .tc := ⟨.hbm, 256, rfl⟩
abbrev main_while0b_v167 : Ref sig .tc := ⟨.hbm, 257, rfl⟩
abbrev main_while0b_v168 : Ref sig .tc := ⟨.hbm, 258, rfl⟩
abbrev main_while0b_v169 : Ref sig .tc := ⟨.hbm, 259, rfl⟩
abbrev main_while0b_v170 : Ref sig .tc := ⟨.hbm, 260, rfl⟩
abbrev main_while0b_v171 : Ref sig .tc := ⟨.hbm, 261, rfl⟩
abbrev main_while0b_v172 : Ref sig .tc := ⟨.hbm, 262, rfl⟩
abbrev main_while0b_v173 : Ref sig .tc := ⟨.hbm, 263, rfl⟩
abbrev main_while0b_v174 : Ref sig .tc := ⟨.hbm, 264, rfl⟩
abbrev main_while0b_v175 : Ref sig .tc := ⟨.hbm, 265, rfl⟩
abbrev main_while0b_v176 : Ref sig .tc := ⟨.hbm, 266, rfl⟩
abbrev main_while0b_v177 : Ref sig .tc := ⟨.hbm, 267, rfl⟩
abbrev main_while0b_v178 : Ref sig .tc := ⟨.hbm, 268, rfl⟩
abbrev main_while0b_v179 : Ref sig .tc := ⟨.hbm, 269, rfl⟩
abbrev main_while0b_v180 : Ref sig .tc := ⟨.hbm, 270, rfl⟩
abbrev main_while0b_v181 : Ref sig .tc := ⟨.hbm, 271, rfl⟩
abbrev main_while0b_v182 : Ref sig .tc := ⟨.hbm, 272, rfl⟩
abbrev main_while0b_v183 : Ref sig .tc := ⟨.hbm, 273, rfl⟩
abbrev main_while0b_v184 : Ref sig .tc := ⟨.hbm, 274, rfl⟩
abbrev main_while0b_v185 : Ref sig .tc := ⟨.hbm, 275, rfl⟩
abbrev main_while0b_v186 : Ref sig .tc := ⟨.hbm, 276, rfl⟩
abbrev main_while0b_v187 : Ref sig .tc := ⟨.hbm, 277, rfl⟩
abbrev main_while0b_v188 : Ref sig .tc := ⟨.hbm, 278, rfl⟩
abbrev main_while0b_v189 : Ref sig .tc := ⟨.hbm, 279, rfl⟩
abbrev main_while0b_v190 : Ref sig .tc := ⟨.hbm, 280, rfl⟩
abbrev main_while0b_v191 : Ref sig .tc := ⟨.hbm, 281, rfl⟩
abbrev main_while0b_v192 : Ref sig .tc := ⟨.hbm, 282, rfl⟩
abbrev main_while0b_v193 : Ref sig .tc := ⟨.hbm, 283, rfl⟩
abbrev main_while0b_v194 : Ref sig .tc := ⟨.hbm, 284, rfl⟩
abbrev main_while0b_v195 : Ref sig .tc := ⟨.hbm, 285, rfl⟩
abbrev main_while0b_v196 : Ref sig .tc := ⟨.hbm, 286, rfl⟩
abbrev main_while0b_v197 : Ref sig .tc := ⟨.hbm, 287, rfl⟩
abbrev main_while0b_v198 : Ref sig .tc := ⟨.hbm, 288, rfl⟩
abbrev main_while0b_v199 : Ref sig .tc := ⟨.hbm, 289, rfl⟩
abbrev main_while0b_cst_60 : Ref sig .tc := ⟨.hbm, 290, rfl⟩
abbrev main_while0b_v200 : Ref sig .tc := ⟨.hbm, 291, rfl⟩
abbrev main_while0b_v201 : Ref sig .tc := ⟨.hbm, 292, rfl⟩
abbrev main_while0b_v202 : Ref sig .tc := ⟨.hbm, 293, rfl⟩
abbrev main_while0b_v203 : Ref sig .tc := ⟨.hbm, 294, rfl⟩
abbrev main_while0b_v204 : Ref sig .tc := ⟨.hbm, 295, rfl⟩
abbrev main_while0b_v205 : Ref sig .tc := ⟨.hbm, 296, rfl⟩
abbrev main_while0b_v206 : Ref sig .tc := ⟨.hbm, 297, rfl⟩
abbrev main_while0b_v207 : Ref sig .tc := ⟨.hbm, 298, rfl⟩
abbrev main_while0b_v208 : Ref sig .tc := ⟨.hbm, 299, rfl⟩
abbrev main_while0b_v209 : Ref sig .tc := ⟨.hbm, 300, rfl⟩
abbrev main_while0b_cst_61 : Ref sig .tc := ⟨.hbm, 301, rfl⟩
abbrev main_while0b_v210 : Ref sig .tc := ⟨.hbm, 302, rfl⟩
abbrev main_while0b_v211 : Ref sig .tc := ⟨.hbm, 303, rfl⟩
abbrev main_while0b_v212 : Ref sig .tc := ⟨.hbm, 304, rfl⟩
abbrev main_while0b_cst_62 : Ref sig .tc := ⟨.hbm, 305, rfl⟩
abbrev main_while0b_v213 : Ref sig .tc := ⟨.hbm, 306, rfl⟩
abbrev main_while0b_v214 : Ref sig .tc := ⟨.hbm, 307, rfl⟩
abbrev main_while0b_cst_63 : Ref sig .tc := ⟨.hbm, 308, rfl⟩
abbrev main_while0b_call9_v0 : Ref sig .tc := ⟨.hbm, 309, rfl⟩
abbrev main_while0b_call9_v1 : Ref sig .tc := ⟨.hbm, 310, rfl⟩
abbrev main_while0b_v215 : Ref sig .tc := ⟨.hbm, 311, rfl⟩
abbrev main_while0b_c_64 : Ref sig .tc := ⟨.hbm, 312, rfl⟩
abbrev main_while0b_v216 : Ref sig .tc := ⟨.hbm, 313, rfl⟩
abbrev main_while0b_c_65 : Ref sig .tc := ⟨.hbm, 314, rfl⟩
abbrev main_while0b_v217 : Ref sig .tc := ⟨.hbm, 315, rfl⟩
abbrev main_while0b_v218 : Ref sig .tc := ⟨.hbm, 316, rfl⟩
abbrev main_while0b_v219 : Ref sig .tc := ⟨.hbm, 317, rfl⟩
abbrev main_while0b_cst_66 : Ref sig .tc := ⟨.hbm, 318, rfl⟩
abbrev main_while0b_v220 : Ref sig .tc := ⟨.hbm, 319, rfl⟩
abbrev main_while0b_c_67 : Ref sig .tc := ⟨.hbm, 320, rfl⟩
abbrev main_while0b_v221 : Ref sig .tc := ⟨.hbm, 321, rfl⟩
abbrev main_c_31 : Ref sig .tc := ⟨.hbm, 322, rfl⟩
abbrev main_v113 : Ref sig .tc := ⟨.hbm, 323, rfl⟩
abbrev main_v114 : Ref sig .tc := ⟨.hbm, 324, rfl⟩
abbrev main_c_32 : Ref sig .tc := ⟨.hbm, 325, rfl⟩
abbrev main_v115 : Ref sig .tc := ⟨.hbm, 326, rfl⟩
abbrev main_v116 : Ref sig .tc := ⟨.hbm, 327, rfl⟩
abbrev main_v117 : Ref sig .tc := ⟨.hbm, 328, rfl⟩
abbrev main_c_33 : Ref sig .tc := ⟨.hbm, 329, rfl⟩
abbrev main_v118 : Ref sig .tc := ⟨.hbm, 330, rfl⟩
abbrev main_v119 : Ref sig .tc := ⟨.hbm, 331, rfl⟩
abbrev main_c_34 : Ref sig .tc := ⟨.hbm, 332, rfl⟩
abbrev main_v120 : Ref sig .tc := ⟨.hbm, 333, rfl⟩
abbrev main_v121 : Ref sig .tc := ⟨.hbm, 334, rfl⟩
abbrev main_v122 : Ref sig .tc := ⟨.hbm, 335, rfl⟩
abbrev main_v123 : Ref sig .tc := ⟨.hbm, 336, rfl⟩
abbrev main_v124 : Ref sig .tc := ⟨.hbm, 337, rfl⟩
abbrev main_v125 : Ref sig .tc := ⟨.hbm, 338, rfl⟩
abbrev main_v126 : Ref sig .tc := ⟨.hbm, 339, rfl⟩
abbrev main_v127 : Ref sig .tc := ⟨.hbm, 340, rfl⟩
abbrev main_c_35 : Ref sig .tc := ⟨.hbm, 341, rfl⟩
abbrev main_v128 : Ref sig .tc := ⟨.hbm, 342, rfl⟩
abbrev main_v129 : Ref sig .tc := ⟨.hbm, 343, rfl⟩
abbrev main_c_36 : Ref sig .tc := ⟨.hbm, 344, rfl⟩
abbrev main_v130 : Ref sig .tc := ⟨.hbm, 345, rfl⟩
abbrev main_v131 : Ref sig .tc := ⟨.hbm, 346, rfl⟩
abbrev main_v132 : Ref sig .tc := ⟨.hbm, 347, rfl⟩
abbrev main_v133 : Ref sig .tc := ⟨.hbm, 348, rfl⟩
abbrev main_v134 : Ref sig .tc := ⟨.hbm, 349, rfl⟩
abbrev main_v135 : Ref sig .tc := ⟨.hbm, 350, rfl⟩
abbrev main_c_37 : Ref sig .tc := ⟨.hbm, 351, rfl⟩
abbrev main_v136 : Ref sig .tc := ⟨.hbm, 352, rfl⟩
abbrev main_v137 : Ref sig .tc := ⟨.hbm, 353, rfl⟩
abbrev main_c_38 : Ref sig .tc := ⟨.hbm, 354, rfl⟩
abbrev main_v138 : Ref sig .tc := ⟨.hbm, 355, rfl⟩
abbrev main_v139 : Ref sig .tc := ⟨.hbm, 356, rfl⟩
abbrev main_v140 : Ref sig .tc := ⟨.hbm, 357, rfl⟩
abbrev main_v141 : Ref sig .tc := ⟨.hbm, 358, rfl⟩
abbrev main_v142 : Ref sig .tc := ⟨.hbm, 359, rfl⟩
abbrev main_c_39 : Ref sig .tc := ⟨.hbm, 360, rfl⟩
abbrev main_call10_v0 : Ref sig .tc := ⟨.hbm, 361, rfl⟩
abbrev main_call10_v1 : Ref sig .tc := ⟨.hbm, 362, rfl⟩
abbrev main_v143 : Ref sig .tc := ⟨.hbm, 363, rfl⟩

abbrev nD : Nat := 1
abbrev τ : Topo := Topo.v7x

variable {F : FTy → Type} [FloatOps F]

abbrev main_while0_count : Scf.Loop 32 := ⟨0#32, 300#32, 1#32⟩
-- ==== Proof.KernelIdealTrip.lean ====
/-
  Hand-written, untrusted. One trip of the suppression loop of `KernelIdeal` as a function of the values it carries, and the values
  the kernel leaves in its six outputs as the 300-fold iterate of that function.
-/
module

public import proofs.«01_k».proof.Proof.Gen.KernelIdeal.Skeleton
public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The values the loop carries: the scores still in play, the four box coordinates, the scores and the labels kept so far. -/
abbrev Car (F : FTy → Type) : Type := FVec F S8x128 .f32 × FVec F S8x128 .f32 × FVec F S8x128 .f32 × FVec F S8x128 .f32 × FVec F S8x128 .f32 × FVec F S8x128 .f32 × IVec S8x128 32

/-- One trip of the loop: the best score's place is found, its row written at row `k` of the outputs, and every score whose box
    overlaps it too much, and its own, is replaced by the sentinel. -/
def trip (v1 : FVec F S8x128 .f32) (v3 : IVec S8x128 32) (v46 v53 v60 v67 v78 v79 v80 v81 : FVec F S8x128 .f32) (k : ℕ) (a : Car F) : Car F :=
  let live := Scalar.cmpf .ogt (k0_pay13 a.1) (Scalar.ofBits .f32 0xCDEE6B28#32)
  let here : IVec S8x128 1 := k0_pay14 k0_pay3 a.1
  let row : IVec S8x128 1 := k0_pay23 k0_pay3 (Scf.iv 0#32 1#32 k)
  let x1 := k0_pay15 v46 k0_pay3 a.1
  let y1 := k0_pay16 v53 k0_pay3 a.1
  let x2 := k0_pay17 v60 k0_pay3 a.1
  let y2 := k0_pay18 v67 k0_pay3 a.1
  (k0_pay22 v79 v80 v81 (k0_pay1 v67 v78) (k0_pay2 v67 v78 v79 v80 v81) a.1 here x1 y1 x2 y2 (k0_pay19 v78 k0_pay3 a.1),
    k0_pay7 a.2.1 row (k0_pay24 live x1), k0_pay8 a.2.2.1 live y1 row, k0_pay9 a.2.2.2.1 live x2 row,
    k0_pay10 a.2.2.2.2.1 live y2 row, k0_pay11 a.2.2.2.2.2.1 live (k0_pay20 v1 here) row,
    k0_pay12 a.2.2.2.2.2.2 live (extractAt ![0, 0, 0] (k0_pay21 v3 here) inpos_S1x1x1_p0_0_0) row)

/-- What the loop carries before trip `k`. -/
def carried (v1 : FVec F S8x128 .f32) (v3 : IVec S8x128 32) (v46 v53 v60 v67 v78 v79 v80 v81 : FVec F S8x128 .f32) (init : Car F) : ℕ → Car F
  | 0 => init
  | k + 1 => trip v1 v3 v46 v53 v60 v67 v78 v79 v80 v81 k (carried v1 v3 v46 v53 v60 v67 v78 v79 v80 v81 init k)

/-- The loop's region at trip `k` touches no buffer: it yields `trip`. -/
theorem body_eq (arg0 : Memref sig .tc .vmem S8x128 .f32) (harg0 : arg0.IsWhole) (arg1 : Memref sig .tc .vmem S8x128 .i32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .i32) (harg15 : arg15.IsWhole)
    (v1 : FVec F S8x128 .f32) (v3 : IVec S8x128 32) (v46 v53 v60 v67 v78 v79 v80 v81 : FVec F S8x128 .f32) (k : Fin k0_t1_loop.trips) (a : Car F) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 v46 v53 v60 v67 v78 v79 v80 v81 k a
      = Prog.ret (trip v1 v3 v46 v53 v60 v67 v78 v79 v80 v81 k.val a) := rfl

set_option warn.classDefReducibility false in
/-- The loop's invariant: the carried values are the iterate of `trip`. -/
@[sl_loop] def loopInv_k0_t1 (c : Dev nD) (arg0 : Memref sig .tc .vmem S8x128 .f32) (harg0 : arg0.IsWhole) (arg1 : Memref sig .tc .vmem S8x128 .i32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .i32) (harg15 : arg15.IsWhole)
    (v1 : FVec F S8x128 .f32) (v3 : IVec S8x128 32) (v46 v53 v60 v67 v78 v79 v80 v81 : FVec F S8x128 .f32) (init : Car F) :
    Cert.KernelIdeal.Gen.LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15
      v1 v3 v46 v53 v60 v67 v78 v79 v80 v81 init where
  inv := fun k acc => iprop(⌜acc = carried v1 v3 v46 v53 v60 v67 v78 v79 v80 v81 init k⌝)
  step := fun k acc => by
    rw [body_eq]
    iintro %h
    sl_step
    ipureintro
    rw [h]; rfl

/-- The seven values the loop leaves, from what the kernel's ten inputs hold. -/
def result (x0 : Vec F S8x128 .f32) (x1 : Vec F S8x128 .i32) (x2 : Vec F S8x128 .f32) (x3 : Vec F S8x128 .f32) (x4 : Vec F S8x128 .f32) (x5 : Vec F S8x128 .f32) (x6 : Vec F S8x128 .f32) (x7 : Vec F S8x128 .f32) (x8 : Vec F S8x128 .f32) (x9 : Vec F S8x128 .f32) : Car F :=
  let v12 := k0_pay29 x6 x8
  let v13 := k0_pay30 x7 x9
  let v23 := k0_pay31 x4
  let v27 := k0_pay32 x5
  let v31 := k0_pay33 x6 x8 x2
  let v35 := k0_pay34 x7 x9 x3
  let v3 := k0_pay26 x1
  carried (k0_pay25 x0) v3 (k0_pay37 v12 v23 v31) (k0_pay38 v13 v27 v35) (k0_pay39 v12 v23 v31) (k0_pay40 v13 v27 v35)
    (k0_pay41 v3 v12 v13 v23 v27 v31 v35) (k0_pay42 v3 v12 v13 v23 v27 v31 v35) (k0_pay43 v3 v12 v13 v23 v27 v31 v35)
    (k0_pay44 v3 v12 v13 v23 v27 v31 v35)
    (k0_pay4 (k0_pay25 x0), k0_pay5, k0_pay5, k0_pay5, k0_pay5, k0_pay5, k0_pay6) k0_t1_loop.trips

end Cert.Proof.KernelIdeal

end
-- ==== Proof.KernelIdealRun.lean ====
/-
  Hand-written, untrusted. The launch of `KernelIdeal`: the body run once, its six outputs at `result` of its ten inputs, the proof data
  of the pipeline, and the run of @main from any memory.
-/
module

public import proofs.«01_k».proof.Proof.Gen.KernelIdeal.Frame
public import proofs.«01_k».proof.Proof.KernelIdealTrip
public import Idealize.ShloMosaic.Lib.Pipeline.Frame
public import Idealize.ShloMosaic.Lib.Pipeline.ValueKit
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one rectangle the body loads and stores: the whole tile. -/
abbrev tile : Rect S8x128 := Rect.unit (s := S8x128) ![0, 0] S8x128.size inb_S8x128_S8x128_0_0

/-- A load of the whole tile is the contents. -/
theorem ld_tile {e : EltTy} (x : Vec F S8x128 e) : View.ld x tile = x :=
  View.ld_unit_lit _ x (by decide)

/-! ## The body's triple -/

/-- The kernel on whole staging buffers, the ten inputs' read as `x0 … x9` and the six outputs' at anything: it returns with the
    inputs' as they were and the outputs' at the values `result` names. -/
theorem sound_kernel_ld (c : Dev nD) (arg0 : Memref sig .tc .vmem S8x128 .f32) (harg0 : arg0.IsWhole) (arg1 : Memref sig .tc .vmem S8x128 .i32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .i32) (harg15 : arg15.IsWhole)
    (x0 : Vec F S8x128 .f32) (x1 : Vec F S8x128 .i32) (x2 : Vec F S8x128 .f32) (x3 : Vec F S8x128 .f32) (x4 : Vec F S8x128 .f32) (x5 : Vec F S8x128 .f32) (x6 : Vec F S8x128 .f32) (x7 : Vec F S8x128 .f32) (x8 : Vec F S8x128 .f32) (x9 : Vec F S8x128 .f32) (K : PUnit → sProp 𝕄) :
    iprop(owns (c : Thread nD τ) arg0 fullShare x0 ∗
        owns (c : Thread nD τ) arg1 fullShare x1 ∗
        owns (c : Thread nD τ) arg2 fullShare x2 ∗
        owns (c : Thread nD τ) arg3 fullShare x3 ∗
        owns (c : Thread nD τ) arg4 fullShare x4 ∗
        owns (c : Thread nD τ) arg5 fullShare x5 ∗
        owns (c : Thread nD τ) arg6 fullShare x6 ∗
        owns (c : Thread nD τ) arg7 fullShare x7 ∗
        owns (c : Thread nD τ) arg8 fullShare x8 ∗
        owns (c : Thread nD τ) arg9 fullShare x9 ∗
        (∃ d, owns (c : Thread nD τ) arg10 fullShare d) ∗
        (∃ d, owns (c : Thread nD τ) arg11 fullShare d) ∗
        (∃ d, owns (c : Thread nD τ) arg12 fullShare d) ∗
        (∃ d, owns (c : Thread nD τ) arg13 fullShare d) ∗
        (∃ d, owns (c : Thread nD τ) arg14 fullShare d) ∗
        (∃ d, owns (c : Thread nD τ) arg15 fullShare d)
        ∗ (iprop(owns (c : Thread nD τ) arg0 fullShare x0 ∗
            owns (c : Thread nD τ) arg1 fullShare x1 ∗
            owns (c : Thread nD τ) arg2 fullShare x2 ∗
            owns (c : Thread nD τ) arg3 fullShare x3 ∗
            owns (c : Thread nD τ) arg4 fullShare x4 ∗
            owns (c : Thread nD τ) arg5 fullShare x5 ∗
            owns (c : Thread nD τ) arg6 fullShare x6 ∗
            owns (c : Thread nD τ) arg7 fullShare x7 ∗
            owns (c : Thread nD τ) arg8 fullShare x8 ∗
            owns (c : Thread nD τ) arg9 fullShare x9 ∗
            owns (c : Thread nD τ) arg10 fullShare (result (View.ld x0 tile) (View.ld x1 tile) (View.ld x2 tile) (View.ld x3 tile) (View.ld x4 tile) (View.ld x5 tile) (View.ld x6 tile) (View.ld x7 tile) (View.ld x8 tile) (View.ld x9 tile)).2.1 ∗
            owns (c : Thread nD τ) arg11 fullShare (result (View.ld x0 tile) (View.ld x1 tile) (View.ld x2 tile) (View.ld x3 tile) (View.ld x4 tile) (View.ld x5 tile) (View.ld x6 tile) (View.ld x7 tile) (View.ld x8 tile) (View.ld x9 tile)).2.2.1 ∗
            owns (c : Thread nD τ) arg12 fullShare (result (View.ld x0 tile) (View.ld x1 tile) (View.ld x2 tile) (View.ld x3 tile) (View.ld x4 tile) (View.ld x5 tile) (View.ld x6 tile) (View.ld x7 tile) (View.ld x8 tile) (View.ld x9 tile)).2.2.2.1 ∗
            owns (c : Thread nD τ) arg13 fullShare (result (View.ld x0 tile) (View.ld x1 tile) (View.ld x2 tile) (View.ld x3 tile) (View.ld x4 tile) (View.ld x5 tile) (View.ld x6 tile) (View.ld x7 tile) (View.ld x8 tile) (View.ld x9 tile)).2.2.2.2.1 ∗
            owns (c : Thread nD τ) arg14 fullShare (result (View.ld x0 tile) (View.ld x1 tile) (View.ld x2 tile) (View.ld x3 tile) (View.ld x4 tile) (View.ld x5 tile) (View.ld x6 tile) (View.ld x7 tile) (View.ld x8 tile) (View.ld x9 tile)).2.2.2.2.2.1 ∗
            owns (c : Thread nD τ) arg15 fullShare (result (View.ld x0 tile) (View.ld x1 tile) (View.ld x2 tile) (View.ld x3 tile) (View.ld x4 tile) (View.ld x5 tile) (View.ld x6 tile) (View.ld x7 tile) (View.ld x8 tile) (View.ld x9 tile)).2.2.2.2.2.2) -∗ K ⟨⟩))
      ⊢ wp frame (wpE (defs₀ (F := F)) Variants.none c none) Set.univ (cc0__nms_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__nms_kernel_eq_skeleton]; unfold cc0__nms_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact (View.read_writes_full ..).trans rfl
  isplitl [H11]
  · iexists _; isplitr; swap; · iexact H11
    ipureintro; exact (View.read_writes_full ..).trans rfl
  isplitl [H12]
  · iexists _; isplitr; swap; · iexact H12
    ipureintro; exact (View.read_writes_full ..).trans rfl
  isplitl [H13]
  · iexists _; isplitr; swap; · iexact H13
    ipureintro; exact (View.read_writes_full ..).trans rfl
  isplitl [H14]
  · iexists _; isplitr; swap; · iexact H14
    ipureintro; exact (View.read_writes_full ..).trans rfl
  iexists _; isplitr; swap; · iexact H15
  ipureintro; exact (View.read_writes_full ..).trans rfl

/-- The same with each load of a whole buffer read as the buffer's contents. -/
theorem sound_kernel (c : Dev nD) (arg0 : Memref sig .tc .vmem S8x128 .f32) (harg0 : arg0.IsWhole) (arg1 : Memref sig .tc .vmem S8x128 .i32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .i32) (harg15 : arg15.IsWhole)
    (x0 : Vec F S8x128 .f32) (x1 : Vec F S8x128 .i32) (x2 : Vec F S8x128 .f32) (x3 : Vec F S8x128 .f32) (x4 : Vec F S8x128 .f32) (x5 : Vec F S8x128 .f32) (x6 : Vec F S8x128 .f32) (x7 : Vec F S8x128 .f32) (x8 : Vec F S8x128 .f32) (x9 : Vec F S8x128 .f32) (K : PUnit → sProp 𝕄) :
    iprop(owns (c : Thread nD τ) arg0 fullShare x0 ∗
        owns (c : Thread nD τ) arg1 fullShare x1 ∗
        owns (c : Thread nD τ) arg2 fullShare x2 ∗
        owns (c : Thread nD τ) arg3 fullShare x3 ∗
        owns (c : Thread nD τ) arg4 fullShare x4 ∗
        owns (c : Thread nD τ) arg5 fullShare x5 ∗
        owns (c : Thread nD τ) arg6 fullShare x6 ∗
        owns (c : Thread nD τ) arg7 fullShare x7 ∗
        owns (c : Thread nD τ) arg8 fullShare x8 ∗
        owns (c : Thread nD τ) arg9 fullShare x9 ∗
        (∃ d, owns (c : Thread nD τ) arg10 fullShare d) ∗
        (∃ d, owns (c : Thread nD τ) arg11 fullShare d) ∗
        (∃ d, owns (c : Thread nD τ) arg12 fullShare d) ∗
        (∃ d, owns (c : Thread nD τ) arg13 fullShare d) ∗
        (∃ d, owns (c : Thread nD τ) arg14 fullShare d) ∗
        (∃ d, owns (c : Thread nD τ) arg15 fullShare d)
        ∗ (iprop(owns (c : Thread nD τ) arg0 fullShare x0 ∗
            owns (c : Thread nD τ) arg1 fullShare x1 ∗
            owns (c : Thread nD τ) arg2 fullShare x2 ∗
            owns (c : Thread nD τ) arg3 fullShare x3 ∗
            owns (c : Thread nD τ) arg4 fullShare x4 ∗
            owns (c : Thread nD τ) arg5 fullShare x5 ∗
            owns (c : Thread nD τ) arg6 fullShare x6 ∗
            owns (c : Thread nD τ) arg7 fullShare x7 ∗
            owns (c : Thread nD τ) arg8 fullShare x8 ∗
            owns (c : Thread nD τ) arg9 fullShare x9 ∗
            owns (c : Thread nD τ) arg10 fullShare (result x0 x1 x2 x3 x4 x5 x6 x7 x8 x9).2.1 ∗
            owns (c : Thread nD τ) arg11 fullShare (result x0 x1 x2 x3 x4 x5 x6 x7 x8 x9).2.2.1 ∗
            owns (c : Thread nD τ) arg12 fullShare (result x0 x1 x2 x3 x4 x5 x6 x7 x8 x9).2.2.2.1 ∗
            owns (c : Thread nD τ) arg13 fullShare (result x0 x1 x2 x3 x4 x5 x6 x7 x8 x9).2.2.2.2.1 ∗
            owns (c : Thread nD τ) arg14 fullShare (result x0 x1 x2 x3 x4 x5 x6 x7 x8 x9).2.2.2.2.2.1 ∗
            owns (c : Thread nD τ) arg15 fullShare (result x0 x1 x2 x3 x4 x5 x6 x7 x8 x9).2.2.2.2.2.2) -∗ K ⟨⟩))
      ⊢ wp frame (wpE (defs₀ (F := F)) Variants.none c none) Set.univ (cc0__nms_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := sound_kernel_ld c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 K
  simp only [ld_tile] at h
  exact h

/-! ## The pipeline's proof data -/

/-- The arrays as the region finds them (`V`); after the body each input's buffer at its block and each output's at `result` of the
    blocks; the invariant the frame kit's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (result (iblk m c 0 t) (iblk m c 1 t) (iblk m c 2 t) (iblk m c 3 t) (iblk m c 4 t) (iblk m c 5 t) (iblk m c 6 t) (iblk m c 7 t) (iblk m c 8 t) (iblk m c 9 t)).2.1
    | ⟨11, _⟩ => (result (iblk m c 0 t) (iblk m c 1 t) (iblk m c 2 t) (iblk m c 3 t) (iblk m c 4 t) (iblk m c 5 t) (iblk m c 6 t) (iblk m c 7 t) (iblk m c 8 t) (iblk m c 9 t)).2.2.1
    | ⟨12, _⟩ => (result (iblk m c 0 t) (iblk m c 1 t) (iblk m c 2 t) (iblk m c 3 t) (iblk m c 4 t) (iblk m c 5 t) (iblk m c 6 t) (iblk m c 7 t) (iblk m c 8 t) (iblk m c 9 t)).2.2.2.1
    | ⟨13, _⟩ => (result (iblk m c 0 t) (iblk m c 1 t) (iblk m c 2 t) (iblk m c 3 t) (iblk m c 4 t) (iblk m c 5 t) (iblk m c 6 t) (iblk m c 7 t) (iblk m c 8 t) (iblk m c 9 t)).2.2.2.2.1
    | ⟨14, _⟩ => (result (iblk m c 0 t) (iblk m c 1 t) (iblk m c 2 t) (iblk m c 3 t) (iblk m c 4 t) (iblk m c 5 t) (iblk m c 6 t) (iblk m c 7 t) (iblk m c 8 t) (iblk m c 9 t)).2.2.2.2.2.1
    | ⟨15, _⟩ => (result (iblk m c 0 t) (iblk m c 1 t) (iblk m c 2 t) (iblk m c 3 t) (iblk m c 4 t) (iblk m c 5 t) (iblk m c 6 t) (iblk m c 7 t) (iblk m c 8 t) (iblk m c 9 t)).2.2.2.2.2.2
    | ⟨n + 16, h⟩ => absurd h (Nat.not_lt.2 (Nat.le_add_left 16 n))
  Φ _ := Pipeline.ΦA spec0 c
  q _ := fullShare
  owed _ := 0

/-- Each window's array is at entry what the host operations left. -/
theorem A_eq (c : Dev nD) (w : Fin cfg0.W) : (dats m 0 c).A w = V m c (Pipeline.arrRef spec0 w) := by
  dsimp only [dats]

/-! What the body leaves in each window, and what it finds in each input's. -/

/-- The body leaves input 0's staging buffer as it was. -/
theorem after0_0 (c : Dev nD) (t : Fin cfg0.N) : (dats m 0 c).after 0 t = iblk m c 0 t := by dsimp only [dats]
/-- The body leaves input 1's staging buffer as it was. -/
theorem after0_1 (c : Dev nD) (t : Fin cfg0.N) : (dats m 0 c).after 1 t = iblk m c 1 t := by dsimp only [dats]
/-- The body leaves input 2's staging buffer as it was. -/
theorem after0_2 (c : Dev nD) (t : Fin cfg0.N) : (dats m 0 c).after 2 t = iblk m c 2 t := by dsimp only [dats]
/-- The body leaves input 3's staging buffer as it was. -/
theorem after0_3 (c : Dev nD) (t : Fin cfg0.N) : (dats m 0 c).after 3 t = iblk m c 3 t := by dsimp only [dats]
/-- The body leaves input 4's staging buffer as it was. -/
theorem after0_4 (c : Dev nD) (t : Fin cfg0.N) : (dats m 0 c).after 4 t = iblk m c 4 t := by dsimp only [dats]
/-- The body leaves input 5's staging buffer as it was. -/
theorem after0_5 (c : Dev nD) (t : Fin cfg0.N) : (dats m 0 c).after 5 t = iblk m c 5 t := by dsimp only [dats]
/-- The body leaves input 6's staging buffer as it was. -/
theorem after0_6 (c : Dev nD) (t : Fin cfg0.N) : (dats m 0 c).after 6 t = iblk m c 6 t := by dsimp only [dats]
/-- The body leaves input 7's staging buffer as it was. -/
theorem after0_7 (c : Dev nD) (t : Fin cfg0.N) : (dats m 0 c).after 7 t = iblk m c 7 t := by dsimp only [dats]
/-- The body leaves input 8's staging buffer as it was. -/
theorem after0_8 (c : Dev nD) (t : Fin cfg0.N) : (dats m 0 c).after 8 t = iblk m c 8 t := by dsimp only [dats]
/-- The body leaves input 9's staging buffer as it was. -/
theorem after0_9 (c : Dev nD) (t : Fin cfg0.N) : (dats m 0 c).after 9 t = iblk m c 9 t := by dsimp only [dats]
/-- What the body leaves in the staging buffer of window 10. -/
theorem after0_10 (c : Dev nD) (t : Fin cfg0.N) : (dats m 0 c).after 10 t = (result (iblk m c 0 t) (iblk m c 1 t) (iblk m c 2 t) (iblk m c 3 t) (iblk m c 4 t) (iblk m c 5 t) (iblk m c 6 t) (iblk m c 7 t) (iblk m c 8 t) (iblk m c 9 t)).2.1 := by dsimp only [dats]
/-- What the body leaves in the staging buffer of window 11. -/
theorem after0_11 (c : Dev nD) (t : Fin cfg0.N) : (dats m 0 c).after 11 t = (result (iblk m c 0 t) (iblk m c 1 t) (iblk m c 2 t) (iblk m c 3 t) (iblk m c 4 t) (iblk m c 5 t) (iblk m c 6 t) (iblk m c 7 t) (iblk m c 8 t) (iblk m c 9 t)).2.2.1 := by dsimp only [dats]
/-- What the body leaves in the staging buffer of window 12. -/
theorem after0_12 (c : Dev nD) (t : Fin cfg0.N) : (dats m 0 c).after 12 t = (result (iblk m c 0 t) (iblk m c 1 t) (iblk m c 2 t) (iblk m c 3 t) (iblk m c 4 t) (iblk m c 5 t) (iblk m c 6 t) (iblk m c 7 t) (iblk m c 8 t) (iblk m c 9 t)).2.2.2.1 := by dsimp only [dats]
/-- What the body leaves in the staging buffer of window 13. -/
theorem after0_13 (c : Dev nD) (t : Fin cfg0.N) : (dats m 0 c).after 13 t = (result (iblk m c 0 t) (iblk m c 1 t) (iblk m c 2 t) (iblk m c 3 t) (iblk m c 4 t) (iblk m c 5 t) (iblk m c 6 t) (iblk m c 7 t) (iblk m c 8 t) (iblk m c 9 t)).2.2.2.2.1 := by dsimp only [dats]
/-- What the body leaves in the staging buffer of window 14. -/
theorem after0_14 (c : Dev nD) (t : Fin cfg0.N) : (dats m 0 c).after 14 t = (result (iblk m c 0 t) (iblk m c 1 t) (iblk m c 2 t) (iblk m c 3 t) (iblk m c 4 t) (iblk m c 5 t) (iblk m c 6 t) (iblk m c 7 t) (iblk m c 8 t) (iblk m c 9 t)).2.2.2.2.2.1 := by dsimp only [dats]
/-- What the body leaves in the staging buffer of window 15. -/
theorem after0_15 (c : Dev nD) (t : Fin cfg0.N) : (dats m 0 c).after 15 t = (result (iblk m c 0 t) (iblk m c 1 t) (iblk m c 2 t) (iblk m c 3 t) (iblk m c 4 t) (iblk m c 5 t) (iblk m c 6 t) (iblk m c 7 t) (iblk m c 8 t) (iblk m c 9 t)).2.2.2.2.2.2 := by dsimp only [dats]
/-- Input 0's staging buffer holds its block when the body begins. -/
theorem before0_0 (c : Dev nD) (t : Fin cfg0.N) (d) : (dats m 0 c).before 0 t d = iblk m c 0 t :=
  before0_0_of m (dats m 0 c) (A_eq m c 0) (after0_0 m c) t d
/-- Input 1's staging buffer holds its block when the body begins. -/
theorem before0_1 (c : Dev nD) (t : Fin cfg0.N) (d) : (dats m 0 c).before 1 t d = iblk m c 1 t :=
  before0_1_of m (dats m 0 c) (A_eq m c 1) (after0_1 m c) t d
/-- Input 2's staging buffer holds its block when the body begins. -/
theorem before0_2 (c : Dev nD) (t : Fin cfg0.N) (d) : (dats m 0 c).before 2 t d = iblk m c 2 t :=
  before0_2_of m (dats m 0 c) (A_eq m c 2) (after0_2 m c) t d
/-- Input 3's staging buffer holds its block when the body begins. -/
theorem before0_3 (c : Dev nD) (t : Fin cfg0.N) (d) : (dats m 0 c).before 3 t d = iblk m c 3 t :=
  before0_3_of m (dats m 0 c) (A_eq m c 3) (after0_3 m c) t d
/-- Input 4's staging buffer holds its block when the body begins. -/
theorem before0_4 (c : Dev nD) (t : Fin cfg0.N) (d) : (dats m 0 c).before 4 t d = iblk m c 4 t :=
  before0_4_of m (dats m 0 c) (A_eq m c 4) (after0_4 m c) t d
/-- Input 5's staging buffer holds its block when the body begins. -/
theorem before0_5 (c : Dev nD) (t : Fin cfg0.N) (d) : (dats m 0 c).before 5 t d = iblk m c 5 t :=
  before0_5_of m (dats m 0 c) (A_eq m c 5) (after0_5 m c) t d
/-- Input 6's staging buffer holds its block when the body begins. -/
theorem before0_6 (c : Dev nD) (t : Fin cfg0.N) (d) : (dats m 0 c).before 6 t d = iblk m c 6 t :=
  before0_6_of m (dats m 0 c) (A_eq m c 6) (after0_6 m c) t d
/-- Input 7's staging buffer holds its block when the body begins. -/
theorem before0_7 (c : Dev nD) (t : Fin cfg0.N) (d) : (dats m 0 c).before 7 t d = iblk m c 7 t :=
  before0_7_of m (dats m 0 c) (A_eq m c 7) (after0_7 m c) t d
/-- Input 8's staging buffer holds its block when the body begins. -/
theorem before0_8 (c : Dev nD) (t : Fin cfg0.N) (d) : (dats m 0 c).before 8 t d = iblk m c 8 t :=
  before0_8_of m (dats m 0 c) (A_eq m c 8) (after0_8 m c) t d
/-- Input 9's staging buffer holds its block when the body begins. -/
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d)) ∗
    (∃ d, owns (c : Thread nD τ) (st0_8 t) fullShare ((dats m 0 c).before 8 t d)) ∗
    (∃ d, owns (c : Thread nD τ) (st0_9 t) fullShare ((dats m 0 c).before 9 t d)) ∗
    (∃ d, owns (c : Thread nD τ) (st0_10 t) fullShare ((dats m 0 c).before 10 t d)) ∗
    (∃ d, owns (c : Thread nD τ) (st0_11 t) fullShare ((dats m 0 c).before 11 t d)) ∗
    (∃ d, owns (c : Thread nD τ) (st0_12 t) fullShare ((dats m 0 c).before 12 t d)) ∗
    (∃ d, owns (c : Thread nD τ) (st0_13 t) fullShare ((dats m 0 c).before 13 t d)) ∗
    (∃ d, owns (c : Thread nD τ) (st0_14 t) fullShare ((dats m 0 c).before 14 t d)) ∗
    (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗
    owns (c : Thread nD τ) (st0_1 t) fullShare ((dats m 0 c).after 1 t) ∗
    owns (c : Thread nD τ) (st0_2 t) fullShare ((dats m 0 c).after 2 t) ∗
    owns (c : Thread nD τ) (st0_3 t) fullShare ((dats m 0 c).after 3 t) ∗
    owns (c : Thread nD τ) (st0_4 t) fullShare ((dats m 0 c).after 4 t) ∗
    owns (c : Thread nD τ) (st0_5 t) fullShare ((dats m 0 c).after 5 t) ∗
    owns (c : Thread nD τ) (st0_6 t) fullShare ((dats m 0 c).after 6 t) ∗
    owns (c : Thread nD τ) (st0_7 t) fullShare ((dats m 0 c).after 7 t) ∗
    owns (c : Thread nD τ) (st0_8 t) fullShare ((dats m 0 c).after 8 t) ∗
    owns (c : Thread nD τ) (st0_9 t) fullShare ((dats m 0 c).after 9 t) ∗
    owns (c : Thread nD τ) (st0_10 t) fullShare ((dats m 0 c).after 10 t) ∗
    owns (c : Thread nD τ) (st0_11 t) fullShare ((dats m 0 c).after 11 t) ∗
    owns (c : Thread nD τ) (st0_12 t) fullShare ((dats m 0 c).after 12 t) ∗
    owns (c : Thread nD τ) (st0_13 t) fullShare ((dats m 0 c).after 13 t) ∗
    owns (c : Thread nD τ) (st0_14 t) fullShare ((dats m 0 c).after 14 t) ∗
    owns (c : Thread nD τ) (st0_15 t) fullShare ((dats m 0 c).after 15 t))

/-- The body at a point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this statement, which takes unfolding plain
-- definitions in a metavariable's type
set_option backward.isDefEq.respectTransparency.types false in
/-- From any memory with zero counters every weakly fair execution of @main terminates; every final state has every array at what
    the operations after the region compute from what `dats` says the region leaves, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps
    (hmain := hmain m Variants.none) (hA := A_eq m) (hΦ := fun _ _ => rfl)

/-- The frame: @main terminates with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.ReferenceFrame.lean ====
/-
  Hand-written, untrusted. The reference's buffers that its loop does not write: kept through the loop, and the arguments kept
  through the whole program; the frame of the reference.
-/
module

public import proofs.«01_k».proof.Proof.Gen.ReferenceIdeal.Run
public import Idealize.ShloMosaic.Lib.Quiescent

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The buffers the loop writes, its condition's and its body's. -/
abbrev loopW : List (Ref sig .tc) := condOps_W ++ while0Ops0_W ++ while0Ops0_1_W ++ while0Ops0_2_W ++ while0Ops0_3_W ++ while0Ops0_4_W

/-- A buffer the loop does not write holds before each trip what it held when the loop was entered. -/
theorem atK_keep (c : Dev nD) (r : Ref sig .tc) (h : r ∉ loopW) :
    ∀ k, atK m k c (Proc.devRef .tc r) = entryContents preI m c (Proc.devRef .tc r)
  | 0 => rfl
  | k + 1 => by
    have hk := atK_keep c r h k
    simp only [List.mem_append, not_or] at h
    obtain ⟨⟨⟨⟨⟨hc, h0⟩, h1⟩, h2⟩, h3⟩, h4⟩ := h
    rw [show atK m (k + 1) c = afterL bodyI (after condOps (atK m k c)) from rfl]
    show after while0Ops0_4 (after while0Ops0_3 (after while0Ops0_2 (after while0Ops0_1 (after while0Ops0 (after condOps (atK m k c)))))) _ = _
    rw [after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, hk]

/-- The buffers the operations before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W

/-- A buffer that the operations before the loop do not write holds at the loop's entry what it held at launch. -/
theorem entry_keep (c : Dev nD) (r : Ref sig .tc) (h : r ∉ preW) :
    entryContents preI m c (Proc.devRef .tc r) = m ((c.tc : Thread nD τ).loc r) := by
  simp only [List.mem_append, not_or] at h
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h
  simp only [entryContents, afterL_cons, afterL_nil]
  rw [after_of_writes_sub _ _ hostOps0_16_writes h16,
    after_of_writes_sub _ _ hostOps0_15_writes h15,
    after_of_writes_sub _ _ hostOps0_14_writes h14,
    after_of_writes_sub _ _ hostOps0_13_writes h13,
    after_of_writes_sub _ _ hostOps0_12_writes h12,
    after_of_writes_sub _ _ hostOps0_11_writes h11,
    after_of_writes_sub _ _ hostOps0_10_writes h10,
    after_of_writes_sub _ _ hostOps0_9_writes h9,
    after_of_writes_sub _ _ hostOps0_8_writes h8,
    after_of_writes_sub _ _ hostOps0_7_writes h7,
    after_of_writes_sub _ _ hostOps0_6_writes h6,
    after_of_writes_sub _ _ hostOps0_5_writes h5,
    after_of_writes_sub _ _ hostOps0_4_writes h4,
    after_of_writes_sub _ _ hostOps0_3_writes h3,
    after_of_writes_sub _ _ hostOps0_2_writes h2,
    after_of_writes_sub _ _ hostOps0_1_writes h1,
    after_of_writes_sub _ _ hostOps0_writes h0]

/-- The buffers the two stretches after the loop write. -/
abbrev post0W : List (Ref sig .tc) := [main_c_31, main_v113, main_v114, main_c_32, main_v115, main_v116, main_v117, main_c_33, main_v118, main_v119, main_c_34, main_v120, main_v121, main_v122, main_v123, main_v124, main_v125, main_v126, main_v127, main_c_35, main_v128, main_v129, main_c_36, main_v130, main_v131, main_v132, main_v133, main_v134, main_v135, main_c_37, main_v136, main_v137, main_c_38, main_v138, main_v139, main_v140, main_v141, main_v142, main_c_39]
@[inherit_doc post0W] abbrev post1W : List (Ref sig .tc) := [main_call10_v0, main_call10_v1, main_v143]
theorem post0_writes : (hostOps0_17 : List (HloOp τ sig (Elt F))).Forall fun op => op.writes ⊆ (post0W.map (Proc.devRef (τ := τ) .tc)).toFinset :=
  forall_writes_sub_of_map rfl
/-- The second stretch after the loop writes only the buffers listed. -/
theorem post1_writes : (hostOps0_18 : List (HloOp τ sig (Elt F))).Forall fun op => op.writes ⊆ (post1W.map (Proc.devRef (τ := τ) .tc)).toFinset :=
  forall_writes_sub_of_map rfl

/-- What every buffer holds at the end: what the two stretches after the loop compute from the loop's last contents. -/
theorem final_eq (c : Dev nD) : finalContents condOps preI bodyI postI 300 m c
    = after hostOps0_18 (after hostOps0_17 (after condOps (atK m 300 c))) := rfl

/-- A buffer nothing after the loop's entry writes ends at what it held there. -/
theorem final_keep (c : Dev nD) (r : Ref sig .tc) (h : r ∉ loopW ++ (post0W ++ post1W)) :
    finalContents condOps preI bodyI postI 300 m c (Proc.devRef .tc r) = entryContents preI m c (Proc.devRef .tc r) := by
  have hl : r ∉ loopW := fun hr => h (List.mem_append_left _ hr)
  have h0 : r ∉ post0W := fun hr => h (List.mem_append_right _ (List.mem_append_left _ hr))
  have h1 : r ∉ post1W := fun hr => h (List.mem_append_right _ (List.mem_append_right _ hr))
  have hc : r ∉ condOps_W := fun hr => hl (by simp only [loopW, List.mem_append]; tauto)
  rw [final_eq, after_of_writes_sub _ _ post1_writes h1, after_of_writes_sub _ _ post0_writes h0,
    after_of_writes_sub _ _ condOps_writes hc]
  exact atK_keep m c r hl 300

/-- An argument ends as launched. -/
theorem arg_kept (c : Dev nD) (r : Ref sig .tc) (h : r ∉ loopW ++ (post0W ++ post1W)) (h' : r ∉ preW) :
    finalContents condOps preI bodyI postI 300 m c (Proc.devRef .tc r) = m ((c.tc : Thread nD τ).loc r) :=
  (final_keep m c r h).trans (entry_keep m c r h')

/-- The arguments end as launched. -/
theorem args_kept (c : Dev nD) (μ : (ℓ : Loc nD τ sig) → Buf (Elt F) ℓ)
    (h : ∀ (b : Ref sig .tc), (Proc.devRef .tc b : DevRef τ sig).isScoped = false →
      μ ((c.tc : Thread nD τ).loc b) = finalContents condOps preI bodyI postI 300 m c (Proc.devRef .tc b)) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2) :=
  ⟨(h main_arg0 rfl).trans (arg_kept m c main_arg0 (by decide +kernel) (by decide +kernel)),
    (h main_arg1 rfl).trans (arg_kept m c main_arg1 (by decide +kernel) (by decide +kernel)),
    (h main_arg2 rfl).trans (arg_kept m c main_arg2 (by decide +kernel) (by decide +kernel))⟩

/-- The reference's frame: it terminates with its arguments unchanged; it declares no semaphore, so every counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => args_kept m c r.2.mem (h c), sem_eq_zero_of_no_sems (by decide) r.2⟩) (run_fold m ρ)

end Cert.Proof.Reference

end
-- ==== Proof.Ranking.lean ====
/-
  Hand-written, untrusted. The order of a top-k on the extended reals: greater values first, equal values by position. The positions
  of the greatest values; a top-k taken in two rounds, first of each row and then of the rows' selections laid end to end, is the
  top-k of the whole; the first position of the greatest value.
-/
module

public import Idealize.ShloMosaic.Lib.SortPrefix
public import Idealize.ShloMosaic.PureOps.Ideal

@[expose] public section

noncomputable section

namespace Cert.Proof

open Idealize.ShloMosaic

/-- Position `k` of `x` comes before position `k'`: its value is greater, or the values are equal and the position is lower. -/
def before {n : ℕ} (x : Fin n → EReal) (k k' : Fin n) : Bool :=
  decide (x k' < x k) || (decide (x k = x k') && decide (k < k'))

/-- A place comes before another when its score is greater, or equal and the place is earlier. -/
theorem before_iff {n : ℕ} (x : Fin n → EReal) (k k' : Fin n) :
    before x k k' = true ↔ x k' < x k ∨ (x k = x k' ∧ k < k') := by
  simp [before]

/-- `before` is a strict total order of the positions. -/
theorem before_total {n : ℕ} (x : Fin n → EReal) : StrictTotalBefore (before x) :=
  StrictTotalBefore.of_key_then_position (fun a b : EReal => decide (b < a)) x (by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

/-- The stable sort of a list asks its relation only of a later element and an earlier one. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort by value alone, greatest first, is the sort by `before`. -/
theorem sortedFrom_gt {n : ℕ} (x : Fin n → EReal) :
    sortedFrom (fun k k' => decide (x k' < x k)) = sortedFrom (before x) := by
  have e : sortPositions n (fun k k' => decide (x k' < x k)) = sortPositions n (before x) := by
    refine stableSort_congr_later _ _ _ ?_
    refine (List.pairwise_lt_finRange n).imp fun {a b} hab => ?_
    simp [before, not_lt_of_gt hab]
  funext k
  unfold sortedFrom
  rw [List.get_of_eq e]
  rfl

/-- The position that ranks `k`-th in `x`. -/
def rank {n : ℕ} (x : Fin n → EReal) : Fin n → Fin n := sortedFrom (before x)

/-- Two ranks never name the same place. -/
theorem rank_injective {n : ℕ} (x : Fin n → EReal) : Function.Injective (rank x) := sortedFrom_injective _

/-- Every place has a rank. -/
theorem rank_surjective {n : ℕ} (x : Fin n → EReal) : Function.Surjective (rank x) := sortedFrom_surjective _

/-- A later rank never comes before an earlier one. -/
theorem rank_sorted {n : ℕ} (x : Fin n → EReal) (i j : Fin n) (h : i < j) : before x (rank x j) (rank x i) = false :=
  sortedFrom_noInversion (before x) (before x) (fun a b h => (before_total x).asymm a b h) (fun _ _ h => h)
    (before_total x).negTrans i j h

/-- A lower rank is before a higher one. -/
theorem rank_before {n : ℕ} (x : Fin n → EReal) (i j : Fin n) (h : i < j) : before x (rank x i) (rank x j) = true := by
  rcases (before_total x).total (rank x i) (rank x j) (fun e => absurd (rank_injective x e) (ne_of_lt h)) with h' | h'
  · exact h'
  · rw [rank_sorted x i j h] at h'; exact absurd h' (by decide)

/-- Ranks come in their own order. -/
theorem rank_before_iff {n : ℕ} (x : Fin n → EReal) (i j : Fin n) : before x (rank x i) (rank x j) = true ↔ i < j := by
  refine ⟨fun h => ?_, rank_before x i j⟩
  rcases lt_trichotomy i j with h' | h' | h'
  · exact h'
  · subst h'; rw [(before_total x).irrefl] at h; exact absurd h (by decide)
  · rw [rank_sorted x j i h'] at h; exact absurd h (by decide)

/-! ## The first of the greatest -/

/-- The first position whose value is the greatest. -/
def pick {n : ℕ} (x : Fin (n + 1) → EReal) : Fin (n + 1) := rank x 0

/-- The best place comes before every other. -/
theorem pick_before {n : ℕ} (x : Fin (n + 1) → EReal) (j : Fin (n + 1)) (h : j ≠ pick x) : before x (pick x) j = true := by
  obtain ⟨k, rfl⟩ := rank_surjective x j
  refine rank_before x 0 k (Fin.pos_of_ne_zero fun e => h ?_)
  rw [e]; rfl

/-- The best place has the greatest score. -/
theorem le_pick {n : ℕ} (x : Fin (n + 1) → EReal) (j : Fin (n + 1)) : x j ≤ x (pick x) := by
  by_cases h : j = pick x
  · rw [h]
  · rcases (before_iff _ _ _).1 (pick_before x j h) with h | h
    · exact h.le
    · exact h.1.ge

/-- Of the places with the greatest score, the best is the first. -/
theorem pick_le {n : ℕ} (x : Fin (n + 1) → EReal) (j : Fin (n + 1)) (hj : x j = x (pick x)) : pick x ≤ j := by
  by_cases h : j = pick x
  · rw [h]
  · rcases (before_iff _ _ _).1 (pick_before x j h) with h | h
    · exact absurd hj (ne_of_lt h)
    · exact h.2.le

/-- What is greatest and first is `pick`. -/
theorem eq_pick {n : ℕ} (x : Fin (n + 1) → EReal) (p : Fin (n + 1)) (h : ∀ j, x j ≤ x p) (h' : ∀ j, x j = x p → p ≤ j) :
    p = pick x :=
  le_antisymm (h' _ (le_antisymm (h _) (le_pick x p))) (pick_le x p (le_antisymm (le_pick x p) (h _)))

/-! ## A top-k in two rounds -/

section TwoRounds

variable {R M K : ℕ} (hKM : K ≤ M) (x : Fin (R * M) → EReal)

/-- Row `r` of `x`, `R` rows of `M` laid end to end. -/
def rowOf (r : Fin R) : Fin M → EReal := fun k => x (finProdFinEquiv (r, k))

/-- Where the element at `p` of the rows' selections (each row's greatest `K`, laid end to end) comes from. -/
def source (p : Fin (R * K)) : Fin (R * M) :=
  finProdFinEquiv ((finProdFinEquiv.symm p).1, rank (rowOf x (finProdFinEquiv.symm p).1) ((finProdFinEquiv.symm p).2.castLE hKM))

/-- The rows' selections. -/
def selected : Fin (R * K) → EReal := fun p => x (source hKM x p)

/-- The place of the whole list that a row's `i`-th winner comes from. -/
theorem source_pair (r : Fin R) (i : Fin K) :
    source hKM x (finProdFinEquiv (r, i)) = finProdFinEquiv (r, rank (rowOf x r) (i.castLE hKM)) := by
  simp only [source, Equiv.symm_apply_apply]

/-- The order of places numbered row by row is the order of rows, then of places in the row. -/
theorem pair_lt {a : ℕ} (r r' : Fin R) (i i' : Fin a) :
    (finProdFinEquiv (r, i) : Fin (R * a)) < finProdFinEquiv (r', i') ↔ r < r' ∨ (r = r' ∧ i < i') := by
  simp only [Fin.lt_def, finProdFinEquiv_apply_val, Fin.ext_iff]
  have hi := i.isLt
  have hi' := i'.isLt
  constructor
  · intro h
    rcases Nat.lt_trichotomy r.val r'.val with h1 | h1 | h1
    · exact Or.inl h1
    · rw [h1] at h; exact Or.inr ⟨h1, by omega⟩
    · have := Nat.mul_le_mul_left a (Nat.succ_le_of_lt h1)
      rw [Nat.succ_eq_add_one, Nat.mul_add] at this; omega
  · rintro (h | ⟨h, h'⟩)
    · have := Nat.mul_le_mul_left a (Nat.succ_le_of_lt h)
      rw [Nat.succ_eq_add_one, Nat.mul_add] at this; omega
    · rw [h]; omega

/-- Two selected elements are ordered as their sources are. -/
theorem before_selected (p q : Fin (R * K)) (h : before (selected hKM x) p q = true) :
    before x (source hKM x p) (source hKM x q) = true := by
  rw [before_iff] at h ⊢
  rcases h with h | ⟨h, hlt⟩
  · exact Or.inl h
  · refine Or.inr ⟨h, ?_⟩
    obtain ⟨⟨r, i⟩, rfl⟩ := finProdFinEquiv.surjective p
    obtain ⟨⟨r', i'⟩, rfl⟩ := finProdFinEquiv.surjective q
    rw [pair_lt] at hlt
    simp only [selected, source_pair] at h ⊢
    rw [pair_lt]
    rcases hlt with hlt | ⟨rfl, hlt⟩
    · exact Or.inl hlt
    · refine Or.inr ⟨rfl, ?_⟩
      rcases (before_iff _ _ _).1 (rank_before (rowOf x r) (i.castLE hKM) (i'.castLE hKM) hlt) with h' | h'
      · exact absurd h (ne_of_gt h')
      · exact h'.2

/-- Different winners come from different places. -/
theorem source_injective : Function.Injective (source hKM x) := by
  intro p q e
  by_contra hne
  rcases (before_total (selected hKM x)).total p q hne with h | h
  · have := before_selected hKM x p q h
    rw [e, (before_total x).irrefl] at this; exact absurd this (by decide)
  · have := before_selected hKM x q p h
    rw [e, (before_total x).irrefl] at this; exact absurd this (by decide)

/-- Winners not in order are not in order in the whole list either. -/
theorem not_before_selected (p q : Fin (R * K)) (h : before (selected hKM x) p q = false) :
    before x (source hKM x p) (source hKM x q) = false := by
  by_cases e : p = q
  · rw [e]; exact (before_total x).irrefl _
  · rcases (before_total (selected hKM x)).total p q e with h' | h'
    · rw [h] at h'; exact absurd h' (by decide)
    · exact (before_total x).asymm _ _ (before_selected hKM x q p h')

/-- The greatest `K` of the rows' selections are the greatest `K` of the whole. -/
theorem rank_two_rounds (hK : K ≤ R * K) (hM : K ≤ R * M) (i : Fin K) :
    rank x (i.castLE hM) = source hKM x (rank (selected hKM x) (i.castLE hK)) := by
  refine (before_total x).sortedFrom_eq_of_prefix hM (fun i => source hKM x (rank (selected hKM x) (i.castLE hK))) ?_ ?_ ?_ i
  · intro a b e
    have := rank_injective _ (source_injective hKM x e)
    simpa [Fin.ext_iff] using this
  · intro a b hab
    exact not_before_selected hKM x _ _ (rank_sorted _ _ _ hab)
  · intro i P hP
    obtain ⟨⟨r, k⟩, rfl⟩ := finProdFinEquiv.surjective P
    obtain ⟨l, rfl⟩ := rank_surjective (rowOf x r) k
    by_cases hl : l.val < K
    · obtain ⟨t, ht⟩ := rank_surjective (selected hKM x) (finProdFinEquiv (r, ⟨l.val, hl⟩))
      have hs : source hKM x (rank (selected hKM x) t) = finProdFinEquiv (r, rank (rowOf x r) l) := by
        rw [ht, source_pair]; rfl
      rw [← hs]
      refine not_before_selected hKM x _ _ (rank_sorted _ _ _ ?_)
      rw [Fin.lt_def]
      by_contra hlt
      have htK : t.val < K := by have := i.isLt; simp only [Fin.val_castLE] at hlt; omega
      exact hP ⟨t.val, htK⟩ hs
    · by_contra hb
      have hb : before x (finProdFinEquiv (r, rank (rowOf x r) l)) (source hKM x (rank (selected hKM x) (i.castLE hK))) = true := by
        simpa using hb
      have hall : ∀ j : Fin K, ∃ t : Fin i.val, rank (selected hKM x) ⟨t.val, (t.isLt.trans i.isLt).trans_le hK⟩ = finProdFinEquiv (r, j) := by
        intro j
        obtain ⟨t, ht⟩ := rank_surjective (selected hKM x) (finProdFinEquiv (r, j))
        have h1 : before x (finProdFinEquiv (r, rank (rowOf x r) (j.castLE hKM))) (finProdFinEquiv (r, rank (rowOf x r) l)) = true := by
          have := rank_before (rowOf x r) (j.castLE hKM) l (by rw [Fin.lt_def, Fin.val_castLE]; have := j.isLt; omega)
          rw [before_iff] at this ⊢
          rcases this with h | ⟨h, h'⟩
          · exact Or.inl h
          · exact Or.inr ⟨h, (pair_lt r r _ _).2 (Or.inr ⟨rfl, h'⟩)⟩
        have h2 := (before_total x).trans _ _ _ h1 hb
        rw [← source_pair, ← ht] at h2
        have h3 : before (selected hKM x) (rank (selected hKM x) t) (rank (selected hKM x) (i.castLE hK)) = true := by
          by_contra h4
          rw [not_before_selected hKM x _ _ (by simpa using h4)] at h2
          exact absurd h2 (by decide)
        have h5 := (rank_before_iff _ _ _).1 h3
        exact ⟨⟨t.val, h5⟩, ht⟩
      choose f hf using hall
      have hinj : Function.Injective f := fun a b e => by
        have h1 := (hf a).symm.trans ((congrArg (fun t : Fin i.val => rank (selected hKM x) ⟨t.val, (t.isLt.trans i.isLt).trans_le hK⟩) e).trans (hf b))
        simpa using finProdFinEquiv.injective h1
      have := Fintype.card_le_of_injective f hinj
      simp only [Fintype.card_fin] at this
      exact absurd i.isLt (by omega)

end TwoRounds

end Cert.Proof

end
-- ==== Proof.Suppress.lean ====
/-
  Hand-written, untrusted. Greedy suppression over a finite list of scored boxes, as a function on the extended reals: which box is
  kept in each round, and the scores left in play after it.
-/
module

public import proofs.«01_k».proof.Proof.Ranking
public import Idealize.ShloMosaic.Lib.Pointwise

@[expose] public section

noncomputable section

namespace Cert.Proof

open Idealize.ShloMosaic

/-- The score of a box that is out of play. -/
def out : EReal := Ideal.ofBits .f32 0xCE6E6B28#32
/-- Half of it: a best score above this bound belongs to a box still in play. -/
def halfOut : EReal := Ideal.ofBits .f32 0xCDEE6B28#32
/-- The score a box must exceed to take part. -/
def enough : EReal := Ideal.ofBits .f32 0x3D4CCCCD#32
/-- The overlap ratio above which a box is suppressed. -/
def tooMuch : EReal := Ideal.ofBits .f32 0x3F000000#32
/-- The small number added to the union's area. -/
def tiny : EReal := Ideal.ofBits .f32 0x2B8CBCCC#32
/-- The image's width and height. -/
def wide : EReal := Ideal.ofBits .f32 0x44854000#32
/-- The image's height. -/
def high : EReal := Ideal.ofBits .f32 0x44480000#32

/-- The score of a box that is gone is not positive. -/
theorem out_nonpos : out ≤ 0 := by
  show Ideal.ofBits .f32 0xCE6E6B28#32 ≤ 0
  simp only [Ideal.ofBits, Ideal.ieee]
  simp
  norm_num
  exact mul_nonneg (EReal.coe_nonneg.mpr (by norm_num)) (pow_nonneg (EReal.coe_nonneg.mpr (by norm_num)) _)

/-- The least overlap that suppresses is not negative. -/
theorem enough_nonneg : 0 ≤ enough := by
  show 0 ≤ Ideal.ofBits .f32 0x3D4CCCCD#32
  simp only [Ideal.ofBits, Ideal.ieee]
  simp
  norm_num
  exact mul_nonneg (EReal.coe_nonneg.mpr (by norm_num)) (EReal.coe_nonneg.mpr (by norm_num))

section

variable {n : ℕ} (x1 y1 x2 y2 : Fin (n + 1) → EReal)

/-- The area two boxes share. -/
def shared (p j : Fin (n + 1)) : EReal :=
  max (min (x2 p) (x2 j) - max (x1 p) (x1 j)) 0 * max (min (y2 p) (y2 j) - max (y1 p) (y1 j)) 0

/-- The shared area over the united area. -/
def overlap (p j : Fin (n + 1)) : EReal :=
  Ideal.div (shared x1 y1 x2 y2 p j)
    ((x2 p - x1 p) * (y2 p - y1 p) + (x2 j - x1 j) * (y2 j - y1 j) - shared x1 y1 x2 y2 p j + tiny)

/-- The scores after one round: the best box, and every box that overlaps it too much, is out of play. -/
def next (s : Fin (n + 1) → EReal) (j : Fin (n + 1)) : EReal :=
  if j = pick s then out else if tooMuch < overlap x1 y1 x2 y2 (pick s) j then out else s j

/-- The scores before round `k`. -/
def scores (s : Fin (n + 1) → EReal) : ℕ → Fin (n + 1) → EReal
  | 0 => s
  | k + 1 => next x1 y1 x2 y2 (scores s k)

/-- The box kept in round `k`, if its score says that it is still in play. -/
def kept (s : Fin (n + 1) → EReal) (k : ℕ) : Fin (n + 1) := pick (scores x1 y1 x2 y2 s k)

/-- Round `k` keeps a box. -/
def live (s : Fin (n + 1) → EReal) (k : ℕ) : Prop := halfOut < scores x1 y1 x2 y2 s k (kept x1 y1 x2 y2 s k)

/-- A round leaves no score below that of a box that is gone. -/
theorem out_le_next (s : Fin (n + 1) → EReal) (h : ∀ j, out ≤ s j) (j : Fin (n + 1)) : out ≤ next x1 y1 x2 y2 s j := by
  unfold next
  split
  · exact le_rfl
  · split
    · exact le_rfl
    · exact h j

/-- No round's scores are below that of a box that is gone. -/
theorem out_le_scores (s : Fin (n + 1) → EReal) (h : ∀ j, out ≤ s j) : ∀ k j, out ≤ scores x1 y1 x2 y2 s k j
  | 0 => h
  | k + 1 => out_le_next x1 y1 x2 y2 _ (out_le_scores s h k)

end

end Cert.Proof

end
-- ==== Proof.TileRead.lean ====
/-
  Hand-written, untrusted. The 8 by 128 tile of `KernelIdeal` as a row of 1024 lanes, and the loop's reductions over it: the largest
  score, its first lane, and a lane picked out by a sum.
-/
module

public import proofs.«01_k».proof.Proof.KernelIdealTrip
public import proofs.«01_k».proof.Proof.Suppress

@[expose] public section

set_option maxRecDepth 16384

noncomputable section

namespace Cert.Proof.KernelIdeal

open Cert.KernelIdeal Cert.KernelIdeal.Gen
open Idealize.ShloMosaic

/-- Lane `j` of the tile. -/
def lane (j : ℕ) (h : j < 1024) : S8x128.Idx := ix2 (⟨j / 128, by omega⟩ : Fin 8) (⟨j % 128, by omega⟩ : Fin 128)

/-- An element of the tile is the lane numbered row by row. -/
theorem lane_of (a : Fin 8) (b : Fin 128) : ix2 a b = lane (a.val * 128 + b.val) (by omega) := by
  unfold lane
  congr 1 <;> apply Fin.ext <;> simp <;> omega

/-- The number of a lane, as the kernel computes it. -/
theorem word_of (a : Fin 8) (b : Fin 128) :
    IntOp.addi (IntOp.muli (BitVec.ofNat 32 a.val) 128#32) (BitVec.ofNat 32 b.val) = BitVec.ofNat 32 (a.val * 128 + b.val) := by
  show BitVec.ofNat 32 a.val * BitVec.ofNat 32 128 + BitVec.ofNat 32 b.val = _
  rw [← BitVec.ofNat_mul, ← BitVec.ofNat_add]

/-- The kernel's numbering of lanes, read at a lane. -/
theorem lane_number (j : ℕ) (h : j < 1024) :
    IntOp.addi (IntOp.muli (BitVec.ofNat 32 (j / 128)) 128#32) (BitVec.ofNat 32 (j % 128)) = BitVec.ofNat 32 j := by
  have := word_of ⟨j / 128, by omega⟩ ⟨j % 128, by omega⟩
  rw [this]
  congr 1
  show j / 128 * 128 + j % 128 = j
  omega

/-- Different lane numbers are different words. -/
theorem ofNat_inj {i j : ℕ} (hi : i < 1024) (hj : j < 1024) : BitVec.ofNat 32 i = BitVec.ofNat 32 j ↔ i = j := by
  constructor
  · intro h
    have := congrArg BitVec.toNat h
    simp only [BitVec.toNat_ofNat] at this
    omega
  · rintro rfl; rfl

/-- A lane number read as a signed word. -/
theorem toInt_ofNat {i : ℕ} (hi : i < 1024) : (BitVec.ofNat 32 i).toInt = i := by
  rw [BitVec.toInt_eq_toNat_of_lt] <;> simp only [BitVec.toNat_ofNat] <;> omega

/-- The signed minimum of words, read as integers. -/
theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

section

variable (S : Fin 1000 → EReal) (s : FVec Ideal S8x128 .f32)

/-- The tile holds the 1000 scores, and `out` in the remaining lanes. -/
def Holds : Prop := (∀ j : Fin 1000, s (lane j.val (by omega)) = S j) ∧ ∀ (j : ℕ) (h : j < 1024), 1000 ≤ j → s (lane j h) = out

variable {S s} (hs : Holds S s) (hS : ∀ j, out ≤ S j)

include hs hS

/-- No lane holds more than the best score. -/
theorem le_best (j : ℕ) (h : j < 1024) : s (lane j h) ≤ S (pick (n := 999) S) := by
  by_cases hj : j < 1000
  · rw [hs.1 ⟨j, hj⟩]; exact le_pick (n := 999) S _
  · rw [hs.2 j h (by omega)]; exact hS _

/-- The tile's largest element is the best score. -/
theorem best_eq : k0_pay13 s = S (pick (n := 999) S) := by
  pointwise [Gen.k0_pay13]
  apply le_antisymm
  · rw [Finset.fold_max_le]
    refine ⟨?_, fun x _ => ?_⟩
    · have : Ideal.ofBits .f32 4286578688#32 = ⊥ := by simp [Ideal.ofBits, Ideal.ieee]
      rw [this]; exact bot_le
    · rw [lane_of]; exact le_best hs hS _ _
  · rw [Finset.le_fold_max]
    refine .inr ⟨(⟨(pick (n := 999) S).val / 128, by omega⟩, ⟨(pick (n := 999) S).val % 128, by omega⟩), Finset.mem_univ _, ?_⟩
    exact (hs.1 (pick (n := 999) S)).ge

/-- The lane marked is the first that holds the best score. -/
theorem mark_eq (a : Fin 8) (b : Fin 128) :
    k0_pay14 k0_pay3 s (ix2 a b) = BitVec.ofBool (decide (a.val * 128 + b.val = (pick (n := 999) S).val)) := by
  pointwise [Gen.k0_pay14, Gen.k0_pay3]
  rw [best_eq hs hS]
  have key : Finset.fold IntOp.minsi (2147483647#32) (fun x : Fin 8 × Fin 128 => if s (ix2 x.1 x.2) = S (pick (n := 999) S) then
        IntOp.addi (IntOp.muli (BitVec.ofNat 32 x.1.val) 128#32) (BitVec.ofNat 32 x.2.val) else 1073741824#32) Finset.univ
      = BitVec.ofNat 32 (pick (n := 999) S).val := by
    apply BitVec.eq_of_toInt_eq
    rw [toInt_ofNat (by omega), ← Finset.fold_hom (op := IntOp.minsi) (op' := min) (m := BitVec.toInt) toInt_minsi]
    apply le_antisymm
    · rw [Finset.fold_min_le]
      refine .inr ⟨(⟨(pick (n := 999) S).val / 128, by omega⟩, ⟨(pick (n := 999) S).val % 128, by omega⟩), Finset.mem_univ _, ?_⟩
      have e := hs.1 (pick (n := 999) S)
      unfold lane at e
      dsimp only
      rw [if_pos e, lane_number _ (by omega), toInt_ofNat (by omega)]
    · rw [Finset.le_fold_min]
      refine ⟨?_, fun x _ => ?_⟩
      · have : (2147483647#32).toInt = 2147483647 := by decide
        omega
      · split
        · rename_i e
          rw [word_of, toInt_ofNat (by omega)]
          rw [lane_of] at e
          by_cases hj : x.1.val * 128 + x.2.val < 1000
          · rw [hs.1 ⟨_, hj⟩] at e
            have := pick_le (n := 999) S ⟨_, hj⟩ e
            rw [Fin.le_def] at this
            exact_mod_cast this
          · omega
        · have : (1073741824#32).toInt = 1073741824 := by decide
          omega
  rw [key, word_of]
  simp only [IntOp.cmpi, beq_eq_decide, ofNat_inj (show a.val * 128 + b.val < 1024 by omega) (show (pick (n := 999) S).val < 1024 by omega)]

/-- A sum over the marked lanes is the one lane's element. -/
theorem sum_mark (v : FVec Ideal S8x128 .f32) :
    (∑ a : Fin 8, ∑ b : Fin 128, Scalar.select (k0_pay14 k0_pay3 s (ix2 a b)) (v (ix2 a b)) (0 : EReal)) = v (lane (pick (n := 999) S).val (by omega)) := by
  rw [← Fintype.sum_prod_type', Finset.sum_eq_single
    ((⟨(pick (n := 999) S).val / 128, by omega⟩, ⟨(pick (n := 999) S).val % 128, by omega⟩) : Fin 8 × Fin 128)]
  · rw [mark_eq hs hS]
    have : (pick (n := 999) S).val / 128 * 128 + (pick (n := 999) S).val % 128 = (pick (n := 999) S).val := by omega
    simp only [this]
    rfl
  · intro x _ hx
    rw [mark_eq hs hS]
    have : ¬ (x.1.val * 128 + x.2.val = (pick (n := 999) S).val) := by
      intro h
      apply hx
      apply Prod.ext <;> apply Fin.ext <;> show _ = _ <;> dsimp only <;> omega
    rw [decide_eq_false this]
    rfl
  · intro h; exact absurd (Finset.mem_univ _) h

omit hs hS in
/-- A sum of zero words is zero. -/
theorem fold_zero {ι : Type} [DecidableEq ι] (f : ι → BitVec 32) (t : Finset ι) (h : ∀ x ∈ t, f x = 0#32) : Finset.fold IntOp.addi (0#32) f t = 0#32 := by
  induction t using Finset.induction_on with
  | empty => rfl
  | insert x t hx ih =>
    rw [Finset.fold_insert hx, ih fun y hy => h y (Finset.mem_insert_of_mem hy), h x (Finset.mem_insert_self _ _)]
    rfl

/-- The same of an integer sum. -/
theorem isum_mark (v : IVec S8x128 32) :
    Finset.fold IntOp.addi (0#32) (fun x : Fin 8 × Fin 128 => Scalar.select (k0_pay14 k0_pay3 s (ix2 x.1 x.2)) (v (ix2 x.1 x.2)) 0#32) Finset.univ
      = v (lane (pick (n := 999) S).val (by omega)) := by
  rw [← Finset.insert_erase (Finset.mem_univ
    ((⟨(pick (n := 999) S).val / 128, by omega⟩, ⟨(pick (n := 999) S).val % 128, by omega⟩) : Fin 8 × Fin 128)),
    Finset.fold_insert (Finset.notMem_erase _ _), fold_zero]
  · rw [mark_eq hs hS]
    have : (pick (n := 999) S).val / 128 * 128 + (pick (n := 999) S).val % 128 = (pick (n := 999) S).val := by omega
    simp only [this]
    exact BitVec.add_zero _
  · intro x hx
    rw [mark_eq hs hS]
    have : ¬ (x.1.val * 128 + x.2.val = (pick (n := 999) S).val) := by
      intro h
      apply Finset.ne_of_mem_erase hx
      apply Prod.ext <;> apply Fin.ext <;> show _ = _ <;> dsimp only <;> omega
    rw [decide_eq_false this]
    rfl

end

end Cert.Proof.KernelIdeal

end
-- ==== Proof.Detect.lean ====
/-
  Hand-written, untrusted. What both programs compute, on the extended reals: the thousand best scores of the flattened score matrix
  and their places, the anchor and the class of each, its decoded and clipped box, the boxes moved apart by class, and what greedy
  suppression keeps of them.
-/
module

public import proofs.«01_k».proof.Proof.Suppress

@[expose] public section

noncomputable section

namespace Cert.Proof

open Idealize.ShloMosaic

/-- A word's sign. -/
def signOf (w : BitVec 32) : BitVec 32 := if w = 0 then 0 else if w.msb then -1 else 1

/-- A place in the flattened score matrix divided by the number of classes, rounded down: the anchor. -/
def anchorOf (w : BitVec 32) : BitVec 32 :=
  Scalar.select (IntOp.andi (IntOp.cmpi .ne (signOf w) (signOf 91#32)) (IntOp.cmpi .ne (IntOp.remsi .host w 91#32) 0#32))
    (IntOp.subi (IntOp.divsi .host w 91#32) 1#32) (IntOp.divsi .host w 91#32)

/-- The remainder, of the divisor's sign: the class. -/
def classOf (w : BitVec 32) : BitVec 32 :=
  let n : BitVec 32 := Scalar.select (IntOp.cmpi .eq 91#32 0#32) 1#32 91#32
  Scalar.select (IntOp.andi (IntOp.cmpi .ne (IntOp.cmpi .slt (IntOp.remsi .host w n) 0#32) (IntOp.cmpi .slt n 0#32)) (IntOp.cmpi .ne (IntOp.remsi .host w n) 0#32))
    (IntOp.addi (IntOp.remsi .host w n) n) (IntOp.remsi .host w n)

/-- The bound on a size's logarithm. -/
def sizeBound : EReal := Ideal.ofBits .f32 0x40845349#32

/-- A box's centre along one axis, from its shift and the anchor's two sides. -/
def centre (d a b : EReal) : EReal := d * (b - a) + (a + tooMuch * (b - a))
/-- Half its size. -/
def halfSize (e a b : EReal) : EReal := tooMuch * (Ideal.exp (min e sizeBound) * (b - a))
/-- Its two sides, clipped to the image. -/
def lower (lim d e a b : EReal) : EReal := min lim (max 0 (centre d a b - halfSize e a b))
/-- A far side: the centre plus half the size, kept inside the image. -/
def upper (lim d e a b : EReal) : EReal := min lim (max 0 (centre d a b + halfSize e a b))

section

variable (D A : Fin 1000 → Fin 4 → EReal)

/-- The decoded and clipped boxes. -/
def left (j : Fin 1000) : EReal := lower wide (D j 0) (D j 2) (A j 0) (A j 2)
/-- The top side of box `j`. -/
def top (j : Fin 1000) : EReal := lower high (D j 1) (D j 3) (A j 1) (A j 3)
/-- The right side of box `j`. -/
def right (j : Fin 1000) : EReal := upper wide (D j 0) (D j 2) (A j 0) (A j 2)
/-- The bottom side of box `j`. -/
def bottom (j : Fin 1000) : EReal := upper high (D j 1) (D j 3) (A j 1) (A j 3)

/-- A bound is the greatest coordinate if it is one of them and no coordinate exceeds it. -/
structure Greatest (g : EReal) : Prop where
  left_le : ∀ j, left D A j ≤ g
  top_le : ∀ j, top D A j ≤ g
  right_le : ∀ j, right D A j ≤ g
  bottom_le : ∀ j, bottom D A j ≤ g
  least : ∀ h, (∀ j, left D A j ≤ h) → (∀ j, top D A j ≤ h) → (∀ j, right D A j ≤ h) → (∀ j, bottom D A j ≤ h) → g ≤ h

/-- There is only one greatest coordinate. -/
theorem Greatest.unique {g h : EReal} (hg : Greatest D A g) (hh : Greatest D A h) : g = h :=
  le_antisymm (hg.least h hh.left_le hh.top_le hh.right_le hh.bottom_le) (hh.least g hg.left_le hg.top_le hg.right_le hg.bottom_le)

/-- How far the boxes of a class are moved, given the greatest coordinate. -/
def offset (lab : Fin 1000 → BitVec 32) (g : EReal) (j : Fin 1000) : EReal := FloatOps.sitofp (F := Ideal) .f32 (lab j) * (g + 1)

/-- The score a box enters suppression with. -/
def entering (s : Fin 1000 → EReal) (j : Fin 1000) : EReal := if enough < s j then s j else out

/-- No score entering the rounds is below that of a box that is gone. -/
theorem out_le_entering (s : Fin 1000 → EReal) (j : Fin 1000) : out ≤ entering s j := by
  unfold entering
  split
  · rename_i h
    exact out_nonpos.trans (enough_nonneg.trans h.le)
  · exact le_rfl

end

/-- The scores before round `k`, what it keeps, and whether it keeps a box, of the boxes moved by their offsets. -/
abbrev scored (x1 y1 x2 y2 off S : Fin 1000 → EReal) (k : ℕ) : Fin 1000 → EReal :=
  scores (n := 999) (fun j => x1 j + off j) (fun j => y1 j + off j) (fun j => x2 j + off j) (fun j => y2 j + off j) S k
/-- The box that round `k` takes, boxes moved apart by class. -/
abbrev chosen (x1 y1 x2 y2 off S : Fin 1000 → EReal) (k : ℕ) : Fin 1000 :=
  kept (n := 999) (fun j => x1 j + off j) (fun j => y1 j + off j) (fun j => x2 j + off j) (fun j => y2 j + off j) S k
/-- Some box is still in at round `k`. -/
abbrev alive (x1 y1 x2 y2 off S : Fin 1000 → EReal) (k : ℕ) : Prop :=
  live (n := 999) (fun j => x1 j + off j) (fun j => y1 j + off j) (fun j => x2 j + off j) (fun j => y2 j + off j) S k

open Classical in
/-- What a round writes: the kept box's element, or a filler if the round keeps no box. -/
def row {α : Type} (p : Prop) (x d : α) : α := if p then x else d

/-- A conditional, spelt as a result row. -/
theorem row_eq {α : Type} (p : Prop) [Decidable p] (x d : α) : (if p then x else d) = row p x d := by
  unfold row; by_cases h : p <;> simp [h]

end Cert.Proof

end
-- ==== Proof.LoopValue.lean ====
/-
  Hand-written, untrusted. The suppression loop of `KernelIdeal` on the extended reals: after `k` trips the score tile holds the scores
  before round `k`, and the first `k` rows of the output tiles hold what the rounds kept.
-/
module

public import proofs.«01_k».proof.Proof.TileRead
public import proofs.«01_k».proof.Proof.Detect

@[expose] public section

set_option maxRecDepth 16384

noncomputable section

namespace Cert.Proof.KernelIdeal

open Cert.KernelIdeal Cert.KernelIdeal.Gen
open Idealize.ShloMosaic

/-- A select on a decided condition is a conditional. -/
theorem select_ofBool {α : Type} (p : Prop) [Decidable p] (x d : α) : Scalar.select (BitVec.ofBool (decide p)) x d = if p then x else d := by
  by_cases h : p <;> simp [Scalar.select, h]

/-- The ordered greater-than over the extended reals. -/
theorem ogt_eq (a b : EReal) : Scalar.cmpf (F := Ideal) (φ := .f32) .ogt a b = BitVec.ofBool (decide (b < a)) := rfl

/-- The row a trip writes is the row of its own number. -/
theorem here_eq (k : ℕ) (hk : k < 1024) (j : ℕ) (h : j < 1024) :
    k0_pay23 k0_pay3 (Scf.iv 0#32 1#32 k) (lane j h) = BitVec.ofBool (decide (j = k)) := by
  unfold lane
  pointwise [Gen.k0_pay23, Gen.k0_pay3]
  rw [lane_number j h]
  have : Scf.iv 0#32 1#32 k = BitVec.ofNat 32 k := by
    unfold Scf.iv; rw [BitVec.mul_one, BitVec.zero_add]
  rw [this]
  simp only [IntOp.cmpi, beq_eq_decide, ofNat_inj h hk]

section

variable (v1 : FVec Ideal S8x128 .f32) (v3 : IVec S8x128 32) (v46 v53 v60 v67 v78 v79 v80 v81 : FVec Ideal S8x128 .f32)
variable (x1 y1 x2 y2 off : Fin 1000 → EReal)

/-- The loop's box tiles hold, in their first 1000 lanes, the boxes and the boxes moved by their labels' offsets. -/
structure Boxes : Prop where
  h46 : ∀ j : Fin 1000, v46 (lane j.val (by omega)) = x1 j
  h53 : ∀ j : Fin 1000, v53 (lane j.val (by omega)) = y1 j
  h60 : ∀ j : Fin 1000, v60 (lane j.val (by omega)) = x2 j
  h67 : ∀ j : Fin 1000, v67 (lane j.val (by omega)) = y2 j
  h78 : ∀ j : Fin 1000, v78 (lane j.val (by omega)) = off j
  h79 : ∀ j : Fin 1000, v79 (lane j.val (by omega)) = x1 j + off j
  h80 : ∀ j : Fin 1000, v80 (lane j.val (by omega)) = y1 j + off j
  h81 : ∀ j : Fin 1000, v81 (lane j.val (by omega)) = x2 j + off j

variable {v46 v53 v60 v67 v78 v79 v80 v81 x1 y1 x2 y2 off}
variable (hb : Boxes v46 v53 v60 v67 v78 v79 v80 v81 x1 y1 x2 y2 off)
variable {S : Fin 1000 → EReal} {a : Car Ideal} (hs : Holds S a.1) (hS : ∀ j, out ≤ S j)

include hs hS

/-- The masked sum picks the left side at the best lane. -/
theorem x1_eq (v : FVec Ideal S8x128 .f32) : k0_pay15 v k0_pay3 a.1 = v (lane (pick (n := 999) S).val (by omega)) := by
  rw [← sum_mark hs hS v]; pointwise [Gen.k0_pay15]
/-- The masked sum picks the top side at the best lane. -/
theorem y1_eq (v : FVec Ideal S8x128 .f32) : k0_pay16 v k0_pay3 a.1 = v (lane (pick (n := 999) S).val (by omega)) := by
  rw [← sum_mark hs hS v]; pointwise [Gen.k0_pay16]
/-- The masked sum picks the right side at the best lane. -/
theorem x2_eq (v : FVec Ideal S8x128 .f32) : k0_pay17 v k0_pay3 a.1 = v (lane (pick (n := 999) S).val (by omega)) := by
  rw [← sum_mark hs hS v]; pointwise [Gen.k0_pay17]
/-- The masked sum picks the bottom side at the best lane. -/
theorem y2_eq (v : FVec Ideal S8x128 .f32) : k0_pay18 v k0_pay3 a.1 = v (lane (pick (n := 999) S).val (by omega)) := by
  rw [← sum_mark hs hS v]; pointwise [Gen.k0_pay18]
/-- The masked sum picks the class offset at the best lane. -/
theorem off_eq (v : FVec Ideal S8x128 .f32) : k0_pay19 v k0_pay3 a.1 = v (lane (pick (n := 999) S).val (by omega)) := by
  rw [← sum_mark hs hS v]; pointwise [Gen.k0_pay19]
/-- The masked sum picks the score at the best lane. -/
theorem score_eq (v : FVec Ideal S8x128 .f32) : k0_pay20 v (k0_pay14 k0_pay3 a.1) = v (lane (pick (n := 999) S).val (by omega)) := by
  rw [← sum_mark hs hS v]; pointwise [Gen.k0_pay20]
/-- The masked sum picks the class at the best lane. -/
theorem label_eq (v : IVec S8x128 32) : extractAt ![0, 0, 0] (k0_pay21 v (k0_pay14 k0_pay3 a.1)) inpos_S1x1x1_p0_0_0 = v (lane (pick (n := 999) S).val (by omega)) := by
  rw [← isum_mark hs hS v]; pointwise [Gen.k0_pay21]

include hb

/-- A trip leaves the next round's scores. -/
theorem trip_scores (k : ℕ) : Holds (next (n := 999) (fun j => x1 j + off j) (fun j => y1 j + off j) (fun j => x2 j + off j) (fun j => y2 j + off j) S)
    (trip v1 v3 v46 v53 v60 v67 v78 v79 v80 v81 k a).1 := by
  have e : ∀ (j : ℕ) (h : j < 1024), (trip v1 v3 v46 v53 v60 v67 v78 v79 v80 v81 k a).1 (lane j h)
      = if j = (pick (n := 999) S).val then out else if tooMuch <
            Ideal.div
              (max (min (x2 (pick (n := 999) S) + off (pick (n := 999) S)) (v81 (lane j h)) - max (x1 (pick (n := 999) S) + off (pick (n := 999) S)) (v79 (lane j h))) 0 *
                max (min (y2 (pick (n := 999) S) + off (pick (n := 999) S)) (v67 (lane j h) + v78 (lane j h)) - max (y1 (pick (n := 999) S) + off (pick (n := 999) S)) (v80 (lane j h))) 0)
              ((x2 (pick (n := 999) S) + off (pick (n := 999) S) - (x1 (pick (n := 999) S) + off (pick (n := 999) S))) * (y2 (pick (n := 999) S) + off (pick (n := 999) S) - (y1 (pick (n := 999) S) + off (pick (n := 999) S))) + (v81 (lane j h) - v79 (lane j h)) * (v67 (lane j h) + v78 (lane j h) - v80 (lane j h)) -
                  max (min (x2 (pick (n := 999) S) + off (pick (n := 999) S)) (v81 (lane j h)) - max (x1 (pick (n := 999) S) + off (pick (n := 999) S)) (v79 (lane j h))) 0 *
                    max (min (y2 (pick (n := 999) S) + off (pick (n := 999) S)) (v67 (lane j h) + v78 (lane j h)) - max (y1 (pick (n := 999) S) + off (pick (n := 999) S)) (v80 (lane j h))) 0 +
                tiny) then out else a.1 (lane j h) := by
    intro j h
    dsimp only [trip]
    rw [x1_eq hs hS, y1_eq hs hS, x2_eq hs hS, y2_eq hs hS, off_eq hs hS, hb.h46, hb.h53, hb.h60, hb.h67, hb.h78]
    unfold lane
    pointwise [Gen.k0_pay22, Gen.k0_pay1, Gen.k0_pay2]
    rw [mark_eq hs hS, select_ofBool]
    have : j / 128 * 128 + j % 128 = j := by omega
    simp only [this]
    rfl
  refine ⟨fun j => ?_, fun j h hj => ?_⟩
  · rw [e, hb.h67, hb.h78, hb.h79, hb.h80, hb.h81, hs.1 j]
    unfold next overlap shared
    simp only [Fin.ext_iff]
  · rw [e, hs.2 j h hj, ite_self, ite_self]

/-- Step `k` writes the best box's left side in lane `k` and leaves the other lanes. -/
theorem trip_x1 (k : ℕ) (hk : k < 1024) (j : ℕ) (h : j < 1024) : (trip v1 v3 v46 v53 v60 v67 v78 v79 v80 v81 k a).2.1 (lane j h)
    = if j = k then row (halfOut < S (pick (n := 999) S)) (x1 (pick (n := 999) S)) 0 else a.2.1 (lane j h) := by
  rw [← row_eq (halfOut < S (pick (n := 999) S)), ← select_ofBool (j = k), ← here_eq k hk j h, ← select_ofBool]
  dsimp only [trip]
  rw [x1_eq hs hS, hb.h46, best_eq hs hS, ← Ideal.ofBits_zero_f32]
  rfl

/-- Step `k` writes the best box's top side in lane `k` and leaves the other lanes. -/
theorem trip_y1 (k : ℕ) (hk : k < 1024) (j : ℕ) (h : j < 1024) : (trip v1 v3 v46 v53 v60 v67 v78 v79 v80 v81 k a).2.2.1 (lane j h)
    = if j = k then row (halfOut < S (pick (n := 999) S)) (y1 (pick (n := 999) S)) 0 else a.2.2.1 (lane j h) := by
  rw [← row_eq (halfOut < S (pick (n := 999) S)), ← select_ofBool (j = k), ← here_eq k hk j h, ← select_ofBool]
  dsimp only [trip]
  rw [y1_eq hs hS, hb.h53, best_eq hs hS, ← Ideal.ofBits_zero_f32]
  rfl

/-- Step `k` writes the best box's right side in lane `k` and leaves the other lanes. -/
theorem trip_x2 (k : ℕ) (hk : k < 1024) (j : ℕ) (h : j < 1024) : (trip v1 v3 v46 v53 v60 v67 v78 v79 v80 v81 k a).2.2.2.1 (lane j h)
    = if j = k then row (halfOut < S (pick (n := 999) S)) (x2 (pick (n := 999) S)) 0 else a.2.2.2.1 (lane j h) := by
  rw [← row_eq (halfOut < S (pick (n := 999) S)), ← select_ofBool (j = k), ← here_eq k hk j h, ← select_ofBool]
  dsimp only [trip]
  rw [x2_eq hs hS, hb.h60, best_eq hs hS, ← Ideal.ofBits_zero_f32]
  rfl

/-- Step `k` writes the best box's bottom side in lane `k` and leaves the other lanes. -/
theorem trip_y2 (k : ℕ) (hk : k < 1024) (j : ℕ) (h : j < 1024) : (trip v1 v3 v46 v53 v60 v67 v78 v79 v80 v81 k a).2.2.2.2.1 (lane j h)
    = if j = k then row (halfOut < S (pick (n := 999) S)) (y2 (pick (n := 999) S)) 0 else a.2.2.2.2.1 (lane j h) := by
  rw [← row_eq (halfOut < S (pick (n := 999) S)), ← select_ofBool (j = k), ← here_eq k hk j h, ← select_ofBool]
  dsimp only [trip]
  rw [y2_eq hs hS, hb.h67, best_eq hs hS, ← Ideal.ofBits_zero_f32]
  rfl

/-- Step `k` writes the best box's score in lane `k` and leaves the other lanes. -/
theorem trip_score (k : ℕ) (hk : k < 1024) (j : ℕ) (h : j < 1024) : (trip v1 v3 v46 v53 v60 v67 v78 v79 v80 v81 k a).2.2.2.2.2.1 (lane j h)
    = if j = k then row (halfOut < S (pick (n := 999) S)) (v1 (lane (pick (n := 999) S).val (by omega))) 0 else a.2.2.2.2.2.1 (lane j h) := by
  rw [← row_eq (halfOut < S (pick (n := 999) S)), ← select_ofBool (j = k), ← here_eq k hk j h, ← select_ofBool]
  dsimp only [trip]
  rw [score_eq hs hS, best_eq hs hS, ← Ideal.ofBits_zero_f32]
  rfl

/-- Step `k` writes the best box's class in lane `k` and leaves the other lanes. -/
theorem trip_label (k : ℕ) (hk : k < 1024) (j : ℕ) (h : j < 1024) : (trip v1 v3 v46 v53 v60 v67 v78 v79 v80 v81 k a).2.2.2.2.2.2 (lane j h)
    = if j = k then row (halfOut < S (pick (n := 999) S)) (v3 (lane (pick (n := 999) S).val (by omega))) 4294967295#32 else a.2.2.2.2.2.2 (lane j h) := by
  rw [← row_eq (halfOut < S (pick (n := 999) S)), ← select_ofBool (j = k), ← here_eq k hk j h, ← select_ofBool]
  dsimp only [trip]
  rw [label_eq hs hS, best_eq hs hS]
  rfl

end

section

variable (v1 : FVec Ideal S8x128 .f32) (v3 : IVec S8x128 32) {v46 v53 v60 v67 v78 v79 v80 v81 : FVec Ideal S8x128 .f32}
variable {x1 y1 x2 y2 off : Fin 1000 → EReal} (hb : Boxes v46 v53 v60 v67 v78 v79 v80 v81 x1 y1 x2 y2 off)
variable {S : Fin 1000 → EReal} {init : Car Ideal} (hs : Holds S init.1) (hS : ∀ j, out ≤ S j)

include hb hs hS

/-- After `k` trips the score tile holds the scores before round `k`. -/
theorem carried_scores : ∀ k, Holds (scored x1 y1 x2 y2 off S k) (carried v1 v3 v46 v53 v60 v67 v78 v79 v80 v81 init k).1
  | 0 => hs
  | k + 1 => trip_scores v1 v3 hb (carried_scores k) (out_le_scores (n := 999) _ _ _ _ S hS k) k

/-- After the steps up to `k`, lane `j` holds the left side that step `j` wrote. -/
theorem carried_x1 (j : ℕ) (h : j < 1024) : ∀ k, j < k → k ≤ 1024 → (carried v1 v3 v46 v53 v60 v67 v78 v79 v80 v81 init k).2.1 (lane j h)
    = row (alive x1 y1 x2 y2 off S j) (x1 (chosen x1 y1 x2 y2 off S j)) 0
  | 0, hj, _ => absurd hj (by omega)
  | k + 1, hj, hk => by
    have e := trip_x1 v1 v3 hb (carried_scores v1 v3 hb hs hS k) (out_le_scores (n := 999) _ _ _ _ S hS k) k (by omega) j h
    refine e.trans ?_
    by_cases hjk : j = k
    · subst hjk
      rw [if_pos rfl]
      rfl
    · rw [if_neg hjk]
      exact carried_x1 j h k (by omega) (by omega)

/-- After the steps up to `k`, lane `j` holds the top side that step `j` wrote. -/
theorem carried_y1 (j : ℕ) (h : j < 1024) : ∀ k, j < k → k ≤ 1024 → (carried v1 v3 v46 v53 v60 v67 v78 v79 v80 v81 init k).2.2.1 (lane j h)
    = row (alive x1 y1 x2 y2 off S j) (y1 (chosen x1 y1 x2 y2 off S j)) 0
  | 0, hj, _ => absurd hj (by omega)
  | k + 1, hj, hk => by
    have e := trip_y1 v1 v3 hb (carried_scores v1 v3 hb hs hS k) (out_le_scores (n := 999) _ _ _ _ S hS k) k (by omega) j h
    refine e.trans ?_
    by_cases hjk : j = k
    · subst hjk
      rw [if_pos rfl]
      rfl
    · rw [if_neg hjk]
      exact carried_y1 j h k (by omega) (by omega)

/-- After the steps up to `k`, lane `j` holds the right side that step `j` wrote. -/
theorem carried_x2 (j : ℕ) (h : j < 1024) : ∀ k, j < k → k ≤ 1024 → (carried v1 v3 v46 v53 v60 v67 v78 v79 v80 v81 init k).2.2.2.1 (lane j h)
    = row (alive x1 y1 x2 y2 off S j) (x2 (chosen x1 y1 x2 y2 off S j)) 0
  | 0, hj, _ => absurd hj (by omega)
  | k + 1, hj, hk => by
    have e := trip_x2 v1 v3 hb (carried_scores v1 v3 hb hs hS k) (out_le_scores (n := 999) _ _ _ _ S hS k) k (by omega) j h
    refine e.trans ?_
    by_cases hjk : j = k
    · subst hjk
      rw [if_pos rfl]
      rfl
    · rw [if_neg hjk]
      exact carried_x2 j h k (by omega) (by omega)

/-- After the steps up to `k`, lane `j` holds the bottom side that step `j` wrote. -/
theorem carried_y2 (j : ℕ) (h : j < 1024) : ∀ k, j < k → k ≤ 1024 → (carried v1 v3 v46 v53 v60 v67 v78 v79 v80 v81 init k).2.2.2.2.1 (lane j h)
    = row (alive x1 y1 x2 y2 off S j) (y2 (chosen x1 y1 x2 y2 off S j)) 0
  | 0, hj, _ => absurd hj (by omega)
  | k + 1, hj, hk => by
    have e := trip_y2 v1 v3 hb (carried_scores v1 v3 hb hs hS k) (out_le_scores (n := 999) _ _ _ _ S hS k) k (by omega) j h
    refine e.trans ?_
    by_cases hjk : j = k
    · subst hjk
      rw [if_pos rfl]
      rfl
    · rw [if_neg hjk]
      exact carried_y2 j h k (by omega) (by omega)

/-- After the steps up to `k`, lane `j` holds the score that step `j` wrote. -/
theorem carried_score (j : ℕ) (h : j < 1024) : ∀ k, j < k → k ≤ 1024 → (carried v1 v3 v46 v53 v60 v67 v78 v79 v80 v81 init k).2.2.2.2.2.1 (lane j h)
    = row (alive x1 y1 x2 y2 off S j) (v1 (lane (chosen x1 y1 x2 y2 off S j).val (by omega))) 0
  | 0, hj, _ => absurd hj (by omega)
  | k + 1, hj, hk => by
    have e := trip_score v1 v3 hb (carried_scores v1 v3 hb hs hS k) (out_le_scores (n := 999) _ _ _ _ S hS k) k (by omega) j h
    refine e.trans ?_
    by_cases hjk : j = k
    · subst hjk
      rw [if_pos rfl]
      rfl
    · rw [if_neg hjk]
      exact carried_score j h k (by omega) (by omega)

/-- After the steps up to `k`, lane `j` holds the class that step `j` wrote. -/
theorem carried_label (j : ℕ) (h : j < 1024) : ∀ k, j < k → k ≤ 1024 → (carried v1 v3 v46 v53 v60 v67 v78 v79 v80 v81 init k).2.2.2.2.2.2 (lane j h)
    = row (alive x1 y1 x2 y2 off S j) (v3 (lane (chosen x1 y1 x2 y2 off S j).val (by omega))) 4294967295#32
  | 0, hj, _ => absurd hj (by omega)
  | k + 1, hj, hk => by
    have e := trip_label v1 v3 hb (carried_scores v1 v3 hb hs hS k) (out_le_scores (n := 999) _ _ _ _ S hS k) k (by omega) j h
    refine e.trans ?_
    by_cases hjk : j = k
    · subst hjk
      rw [if_pos rfl]
      rfl
    · rw [if_neg hjk]
      exact carried_label j h k (by omega) (by omega)

end

end Cert.Proof.KernelIdeal

end
-- ==== Proof.KernelTiles.lean ====
/-
  Hand-written, untrusted. What the kernel of `KernelIdeal` leaves in its outputs, on the extended reals, when its inputs are the
  thousand scores, classes, shifts and anchors padded with zeros to a tile.
-/
module

public import proofs.«01_k».proof.Proof.LoopValue

@[expose] public section

set_option maxRecDepth 16384

noncomputable section

namespace Cert.Proof.KernelIdeal

open Cert.KernelIdeal Cert.KernelIdeal.Gen
open Idealize.ShloMosaic

/-- A list of a thousand, continued by a filler. -/
def padded {α : Type} (f : Fin 1000 → α) (z : α) (j : ℕ) : α := if h : j < 1000 then f ⟨j, h⟩ else z

/-- A padded list at a place of the list. -/
theorem padded_lt {α : Type} (f : Fin 1000 → α) (z : α) (j : Fin 1000) : padded f z j.val = f j := dif_pos j.isLt
/-- A padded list past its end. -/
theorem padded_ge {α : Type} (f : Fin 1000 → α) (z : α) {j : ℕ} (h : 1000 ≤ j) : padded f z j = z := dif_neg (by omega)

section

variable (s : Fin 1000 → EReal) (lab : Fin 1000 → BitVec 32) (D A : Fin 1000 → Fin 4 → EReal)
variable (x0 : Vec Ideal S8x128 .f32) (x1 : Vec Ideal S8x128 .i32) (x2 x3 x4 x5 x6 x7 x8 x9 : Vec Ideal S8x128 .f32)

/-- The kernel's inputs hold the padded lists. -/
structure Inputs : Prop where
  h0 : ∀ j h, x0 (lane j h) = padded s 0 j
  h1 : ∀ j h, x1 (lane j h) = padded lab 0#32 j
  h2 : ∀ j h, x2 (lane j h) = padded (D · 0) 0 j
  h3 : ∀ j h, x3 (lane j h) = padded (D · 1) 0 j
  h4 : ∀ j h, x4 (lane j h) = padded (D · 2) 0 j
  h5 : ∀ j h, x5 (lane j h) = padded (D · 3) 0 j
  h6 : ∀ j h, x6 (lane j h) = padded (A · 0) 0 j
  h7 : ∀ j h, x7 (lane j h) = padded (A · 1) 0 j
  h8 : ∀ j h, x8 (lane j h) = padded (A · 2) 0 j
  h9 : ∀ j h, x9 (lane j h) = padded (A · 3) 0 j

/-- The tile of left sides. -/
abbrev v46 := k0_pay37 (F := Ideal) (k0_pay29 x6 x8) (k0_pay31 x4) (k0_pay33 x6 x8 x2)
/-- The tile of top sides. -/
abbrev v53 := k0_pay38 (F := Ideal) (k0_pay30 x7 x9) (k0_pay32 x5) (k0_pay34 x7 x9 x3)
/-- The tile of right sides. -/
abbrev v60 := k0_pay39 (F := Ideal) (k0_pay29 x6 x8) (k0_pay31 x4) (k0_pay33 x6 x8 x2)
/-- The tile of bottom sides. -/
abbrev v67 := k0_pay40 (F := Ideal) (k0_pay30 x7 x9) (k0_pay32 x5) (k0_pay34 x7 x9 x3)
/-- The tile of class offsets. -/
abbrev v78 := k0_pay41 (F := Ideal) x1 (k0_pay29 x6 x8) (k0_pay30 x7 x9) (k0_pay31 x4) (k0_pay32 x5) (k0_pay33 x6 x8 x2) (k0_pay34 x7 x9 x3)
/-- The tile of left sides moved by class. -/
abbrev v79 := k0_pay42 (F := Ideal) x1 (k0_pay29 x6 x8) (k0_pay30 x7 x9) (k0_pay31 x4) (k0_pay32 x5) (k0_pay33 x6 x8 x2) (k0_pay34 x7 x9 x3)
/-- The tile of top sides moved by class. -/
abbrev v80 := k0_pay43 (F := Ideal) x1 (k0_pay29 x6 x8) (k0_pay30 x7 x9) (k0_pay31 x4) (k0_pay32 x5) (k0_pay33 x6 x8 x2) (k0_pay34 x7 x9 x3)
/-- The tile of right sides moved by class. -/
abbrev v81 := k0_pay44 (F := Ideal) x1 (k0_pay29 x6 x8) (k0_pay30 x7 x9) (k0_pay31 x4) (k0_pay32 x5) (k0_pay33 x6 x8 x2) (k0_pay34 x7 x9 x3)

/-- The tile of left sides, at an element. -/
theorem v46_at (a : Fin 8) (b : Fin 128) : v46 x2 x4 x6 x8 (ix2 a b) = lower wide (x2 (ix2 a b)) (x4 (ix2 a b)) (x6 (ix2 a b)) (x8 (ix2 a b)) := by
  pointwise [Gen.k0_pay37, Gen.k0_pay29, Gen.k0_pay31, Gen.k0_pay33, Gen.k0_pay35, Gen.k0_pay27]
  rfl
/-- The tile of top sides, at an element. -/
theorem v53_at (a : Fin 8) (b : Fin 128) : v53 x3 x5 x7 x9 (ix2 a b) = lower high (x3 (ix2 a b)) (x5 (ix2 a b)) (x7 (ix2 a b)) (x9 (ix2 a b)) := by
  pointwise [Gen.k0_pay38, Gen.k0_pay30, Gen.k0_pay32, Gen.k0_pay34, Gen.k0_pay36, Gen.k0_pay28]
  rfl
/-- The tile of right sides, at an element. -/
theorem v60_at (a : Fin 8) (b : Fin 128) : v60 x2 x4 x6 x8 (ix2 a b) = upper wide (x2 (ix2 a b)) (x4 (ix2 a b)) (x6 (ix2 a b)) (x8 (ix2 a b)) := by
  pointwise [Gen.k0_pay39, Gen.k0_pay29, Gen.k0_pay31, Gen.k0_pay33, Gen.k0_pay35, Gen.k0_pay27]
  rfl
/-- The tile of bottom sides, at an element. -/
theorem v67_at (a : Fin 8) (b : Fin 128) : v67 x3 x5 x7 x9 (ix2 a b) = upper high (x3 (ix2 a b)) (x5 (ix2 a b)) (x7 (ix2 a b)) (x9 (ix2 a b)) := by
  pointwise [Gen.k0_pay40, Gen.k0_pay30, Gen.k0_pay32, Gen.k0_pay34, Gen.k0_pay36, Gen.k0_pay28]
  rfl

/-- The greatest coordinate of a tile's boxes, as the kernel finds it. -/
def most : EReal := Finset.fold max (Ideal.ofBits .f32 0xFF800000#32) (fun x : Fin 8 × Fin 128 =>
  max (max (v46 x2 x4 x6 x8 (ix2 x.1 x.2)) (v53 x3 x5 x7 x9 (ix2 x.1 x.2))) (max (v60 x2 x4 x6 x8 (ix2 x.1 x.2)) (v67 x3 x5 x7 x9 (ix2 x.1 x.2)))) Finset.univ

/-- The tile of class offsets, at an element. -/
theorem v78_at (a : Fin 8) (b : Fin 128) : v78 x1 x2 x3 x4 x5 x6 x7 x8 x9 (ix2 a b)
    = FloatOps.sitofp (F := Ideal) .f32 (x1 (ix2 a b)) * (most x2 x3 x4 x5 x6 x7 x8 x9 + 1) := by
  pointwise [Gen.k0_pay41]
  rfl
/-- The tile of left sides moved by class, at an element. -/
theorem v79_at (a : Fin 8) (b : Fin 128) : v79 x1 x2 x3 x4 x5 x6 x7 x8 x9 (ix2 a b) = v46 x2 x4 x6 x8 (ix2 a b) + v78 x1 x2 x3 x4 x5 x6 x7 x8 x9 (ix2 a b) := by
  pointwise [Gen.k0_pay42]
/-- The tile of top sides moved by class, at an element. -/
theorem v80_at (a : Fin 8) (b : Fin 128) : v80 x1 x2 x3 x4 x5 x6 x7 x8 x9 (ix2 a b) = v53 x3 x5 x7 x9 (ix2 a b) + v78 x1 x2 x3 x4 x5 x6 x7 x8 x9 (ix2 a b) := by
  pointwise [Gen.k0_pay43]
/-- The tile of right sides moved by class, at an element. -/
theorem v81_at (a : Fin 8) (b : Fin 128) : v81 x1 x2 x3 x4 x5 x6 x7 x8 x9 (ix2 a b) = v60 x2 x4 x6 x8 (ix2 a b) + v78 x1 x2 x3 x4 x5 x6 x7 x8 x9 (ix2 a b) := by
  pointwise [Gen.k0_pay44]

variable {s lab D A x0 x1 x2 x3 x4 x5 x6 x7 x8 x9} (hi : Inputs s lab D A x0 x1 x2 x3 x4 x5 x6 x7 x8 x9)

/-- A padding lane's near side: zero, kept below the limit. -/
theorem lower_zero (lim d e : EReal) : lower lim d e 0 0 = min lim 0 := by
  unfold lower centre halfSize
  simp
/-- A padding lane's far side: zero, kept below the limit. -/
theorem upper_zero (lim d e : EReal) : upper lim d e 0 0 = min lim 0 := by
  unfold upper centre halfSize
  simp
/-- A near side is at least a padding lane's. -/
theorem zero_le_lower (lim d e a b : EReal) : min lim 0 ≤ lower lim d e a b := min_le_min_left _ (le_max_left _ _)
/-- A far side is at least a padding lane's. -/
theorem zero_le_upper (lim d e a b : EReal) : min lim 0 ≤ upper lim d e a b := min_le_min_left _ (le_max_left _ _)

include hi

/-- The tile of left sides at a box's lane. -/
theorem v46_lane (j : Fin 1000) : v46 x2 x4 x6 x8 (lane j.val (by omega)) = left D A j := by
  refine (v46_at _ _ _ _ _ _).trans ?_; change lower wide (x2 (lane j.val (by omega))) (x4 (lane j.val (by omega))) (x6 (lane j.val (by omega))) (x8 (lane j.val (by omega))) = _
  rw [hi.h2, hi.h4, hi.h6, hi.h8, padded_lt, padded_lt, padded_lt, padded_lt]; rfl
/-- The tile of top sides at a box's lane. -/
theorem v53_lane (j : Fin 1000) : v53 x3 x5 x7 x9 (lane j.val (by omega)) = top D A j := by
  refine (v53_at _ _ _ _ _ _).trans ?_; change lower high (x3 (lane j.val (by omega))) (x5 (lane j.val (by omega))) (x7 (lane j.val (by omega))) (x9 (lane j.val (by omega))) = _
  rw [hi.h3, hi.h5, hi.h7, hi.h9, padded_lt, padded_lt, padded_lt, padded_lt]; rfl
/-- The tile of right sides at a box's lane. -/
theorem v60_lane (j : Fin 1000) : v60 x2 x4 x6 x8 (lane j.val (by omega)) = right D A j := by
  refine (v60_at _ _ _ _ _ _).trans ?_; change upper wide (x2 (lane j.val (by omega))) (x4 (lane j.val (by omega))) (x6 (lane j.val (by omega))) (x8 (lane j.val (by omega))) = _
  rw [hi.h2, hi.h4, hi.h6, hi.h8, padded_lt, padded_lt, padded_lt, padded_lt]; rfl
/-- The tile of bottom sides at a box's lane. -/
theorem v67_lane (j : Fin 1000) : v67 x3 x5 x7 x9 (lane j.val (by omega)) = bottom D A j := by
  refine (v67_at _ _ _ _ _ _).trans ?_; change upper high (x3 (lane j.val (by omega))) (x5 (lane j.val (by omega))) (x7 (lane j.val (by omega))) (x9 (lane j.val (by omega))) = _
  rw [hi.h3, hi.h5, hi.h7, hi.h9, padded_lt, padded_lt, padded_lt, padded_lt]; rfl

/-- The tile of left sides at a padding lane. -/
theorem v46_pad (j : ℕ) (h : j < 1024) (hj : 1000 ≤ j) : v46 x2 x4 x6 x8 (lane j h) = min wide 0 := by
  refine (v46_at _ _ _ _ _ _).trans ?_; change lower wide (x2 (lane j h)) (x4 (lane j h)) (x6 (lane j h)) (x8 (lane j h)) = _
  rw [hi.h6, hi.h8, padded_ge _ _ hj, padded_ge _ _ hj, lower_zero]
/-- The tile of top sides at a padding lane. -/
theorem v53_pad (j : ℕ) (h : j < 1024) (hj : 1000 ≤ j) : v53 x3 x5 x7 x9 (lane j h) = min high 0 := by
  refine (v53_at _ _ _ _ _ _).trans ?_; change lower high (x3 (lane j h)) (x5 (lane j h)) (x7 (lane j h)) (x9 (lane j h)) = _
  rw [hi.h7, hi.h9, padded_ge _ _ hj, padded_ge _ _ hj, lower_zero]
/-- The tile of right sides at a padding lane. -/
theorem v60_pad (j : ℕ) (h : j < 1024) (hj : 1000 ≤ j) : v60 x2 x4 x6 x8 (lane j h) = min wide 0 := by
  refine (v60_at _ _ _ _ _ _).trans ?_; change upper wide (x2 (lane j h)) (x4 (lane j h)) (x6 (lane j h)) (x8 (lane j h)) = _
  rw [hi.h6, hi.h8, padded_ge _ _ hj, padded_ge _ _ hj, upper_zero]
/-- The tile of bottom sides at a padding lane. -/
theorem v67_pad (j : ℕ) (h : j < 1024) (hj : 1000 ≤ j) : v67 x3 x5 x7 x9 (lane j h) = min high 0 := by
  refine (v67_at _ _ _ _ _ _).trans ?_; change upper high (x3 (lane j h)) (x5 (lane j h)) (x7 (lane j h)) (x9 (lane j h)) = _
  rw [hi.h7, hi.h9, padded_ge _ _ hj, padded_ge _ _ hj, upper_zero]

/-- Each side of each box is at most the kernel's greatest coordinate. -/
theorem lane_le_most (j : Fin 1000) :
    max (max (left D A j) (top D A j)) (max (right D A j) (bottom D A j)) ≤ most x2 x3 x4 x5 x6 x7 x8 x9 := by
  unfold most
  rw [Finset.le_fold_max]
  refine .inr ⟨(⟨j.val / 128, by omega⟩, ⟨j.val % 128, by omega⟩), Finset.mem_univ _, ?_⟩
  rw [← v46_lane hi, ← v53_lane hi, ← v60_lane hi, ← v67_lane hi]
  exact le_rfl

/-- The tile's greatest coordinate is the greatest of the thousand boxes: the padding's coordinates exceed none of them. -/
theorem most_greatest : Greatest D A (most x2 x3 x4 x5 x6 x7 x8 x9) where
  left_le j := ((le_max_left _ _).trans (le_max_left _ _)).trans (lane_le_most hi j)
  top_le j := ((le_max_right _ _).trans (le_max_left _ _)).trans (lane_le_most hi j)
  right_le j := ((le_max_left _ _).trans (le_max_right _ _)).trans (lane_le_most hi j)
  bottom_le j := ((le_max_right _ _).trans (le_max_right _ _)).trans (lane_le_most hi j)
  least h h1 h2 h3 h4 := by
    unfold most
    rw [Finset.fold_max_le]
    refine ⟨?_, fun x _ => ?_⟩
    · have : Ideal.ofBits .f32 0xFF800000#32 = ⊥ := by simp [Ideal.ofBits, Ideal.ieee]
      rw [this]; exact bot_le
    · rw [lane_of]
      by_cases hj : x.1.val * 128 + x.2.val < 1000
      · have e1 := v46_lane hi ⟨_, hj⟩
        have e2 := v53_lane hi ⟨_, hj⟩
        have e3 := v60_lane hi ⟨_, hj⟩
        have e4 := v67_lane hi ⟨_, hj⟩
        dsimp only at e1 e2 e3 e4
        rw [e1, e2, e3, e4]
        exact max_le (max_le (h1 _) (h2 _)) (max_le (h3 _) (h4 _))
      · rw [v46_pad hi _ _ (by omega), v53_pad hi _ _ (by omega), v60_pad hi _ _ (by omega), v67_pad hi _ _ (by omega)]
        have hw : min wide 0 ≤ h := (zero_le_lower _ _ _ _ _).trans (h1 ⟨0, by omega⟩)
        have hh : min high 0 ≤ h := (zero_le_lower _ _ _ _ _).trans (h2 ⟨0, by omega⟩)
        exact max_le (max_le hw hh) (max_le hw hh)

variable {g : EReal} (hg : Greatest D A g)
include hg

/-- The offset tile holds each box's class offset. -/
theorem v78_lane (j : Fin 1000) : v78 x1 x2 x3 x4 x5 x6 x7 x8 x9 (lane j.val (by omega)) = offset lab g j := by
  refine (v78_at _ _ _ _ _ _ _ _ _ _ _).trans ?_; rw [(most_greatest hi).unique D A hg]
  change FloatOps.sitofp (F := Ideal) .f32 (x1 (lane j.val (by omega))) * _ = _
  rw [hi.h1, padded_lt]; rfl

/-- The tiles hold the boxes and the boxes moved apart by class. -/
theorem boxes : Boxes (v46 x2 x4 x6 x8) (v53 x3 x5 x7 x9) (v60 x2 x4 x6 x8) (v67 x3 x5 x7 x9) (v78 x1 x2 x3 x4 x5 x6 x7 x8 x9)
    (v79 x1 x2 x3 x4 x5 x6 x7 x8 x9) (v80 x1 x2 x3 x4 x5 x6 x7 x8 x9) (v81 x1 x2 x3 x4 x5 x6 x7 x8 x9)
    (left D A) (top D A) (right D A) (bottom D A) (offset lab g) where
  h46 := v46_lane hi
  h53 := v53_lane hi
  h60 := v60_lane hi
  h67 := v67_lane hi
  h78 := v78_lane hi hg
  h79 j := by rw [← v46_lane hi, ← v78_lane hi hg]; exact v79_at _ _ _ _ _ _ _ _ _ _ _
  h80 j := by rw [← v53_lane hi, ← v78_lane hi hg]; exact v80_at _ _ _ _ _ _ _ _ _ _ _
  h81 j := by rw [← v60_lane hi, ← v78_lane hi hg]; exact v81_at _ _ _ _ _ _ _ _ _ _ _

omit hg in
/-- The score tile enters the steps with the entering scores, padding lanes as boxes that are gone. -/
theorem entering_holds : Holds (entering s) (k0_pay4 (F := Ideal) (k0_pay25 x0)) := by
  have e : ∀ j h, k0_pay4 (F := Ideal) (k0_pay25 x0) (lane j h) = if enough < padded s 0 j then padded s 0 j else out := by
    intro j h
    rw [← hi.h0 j h]
    unfold lane
    pointwise [Gen.k0_pay4, Gen.k0_pay25]
    rfl
  refine ⟨fun j => ?_, fun j h hj => ?_⟩
  · rw [e, padded_lt]; rfl
  · rw [e, padded_ge _ _ hj, if_neg (not_lt.mpr enough_nonneg)]

omit hi hg in
/-- The score tile is used as it is read. -/
theorem pay25_eq : k0_pay25 (F := Ideal) x0 = x0 := by
  funext j
  idx_vars j
  pointwise [Gen.k0_pay25]
omit hi hg in
/-- The class tile is used as it is read. -/
theorem pay26_eq : k0_pay26 (F := Ideal) x1 = x1 := by
  funext j
  idx_vars j
  pointwise [Gen.k0_pay26]
omit hi hg in
/-- The loop makes 300 steps. -/
theorem trips_eq : k0_t1_loop.trips = 300 := by decide +kernel

omit hi hg in
/-- The body's results are what 300 steps carry. -/
theorem result_eq : result (F := Ideal) x0 x1 x2 x3 x4 x5 x6 x7 x8 x9
    = carried x0 x1 (v46 x2 x4 x6 x8) (v53 x3 x5 x7 x9) (v60 x2 x4 x6 x8) (v67 x3 x5 x7 x9) (v78 x1 x2 x3 x4 x5 x6 x7 x8 x9)
      (v79 x1 x2 x3 x4 x5 x6 x7 x8 x9) (v80 x1 x2 x3 x4 x5 x6 x7 x8 x9) (v81 x1 x2 x3 x4 x5 x6 x7 x8 x9)
      (k0_pay4 (F := Ideal) (k0_pay25 x0), k0_pay5, k0_pay5, k0_pay5, k0_pay5, k0_pay5, k0_pay6) 300 := by
  dsimp only [result]
  rw [trips_eq, pay26_eq]
  conv_lhs => arg 1; rw [pay25_eq]

/-- Row `j` of the kernel's output: round `j`'s, for each of the 300 rounds. -/
theorem result_x1 (j : ℕ) (h : j < 300) : (result (F := Ideal) x0 x1 x2 x3 x4 x5 x6 x7 x8 x9).2.1 (lane j (by omega))
    = row (alive (left D A) (top D A) (right D A) (bottom D A) (offset lab g) (entering s) j)
      (left D A (chosen (left D A) (top D A) (right D A) (bottom D A) (offset lab g) (entering s) j)) 0 := by
  rw [result_eq]
  refine (carried_x1 x0 x1 (boxes hi hg) (entering_holds hi) (out_le_entering s) j (by omega) 300 h (by omega)).trans ?_
  rfl

/-- Row `j` of the kernel's output: round `j`'s, for each of the 300 rounds. -/
theorem result_y1 (j : ℕ) (h : j < 300) : (result (F := Ideal) x0 x1 x2 x3 x4 x5 x6 x7 x8 x9).2.2.1 (lane j (by omega))
    = row (alive (left D A) (top D A) (right D A) (bottom D A) (offset lab g) (entering s) j)
      (top D A (chosen (left D A) (top D A) (right D A) (bottom D A) (offset lab g) (entering s) j)) 0 := by
  rw [result_eq]
  refine (carried_y1 x0 x1 (boxes hi hg) (entering_holds hi) (out_le_entering s) j (by omega) 300 h (by omega)).trans ?_
  rfl

/-- Row `j` of the kernel's output: round `j`'s, for each of the 300 rounds. -/
theorem result_x2 (j : ℕ) (h : j < 300) : (result (F := Ideal) x0 x1 x2 x3 x4 x5 x6 x7 x8 x9).2.2.2.1 (lane j (by omega))
    = row (alive (left D A) (top D A) (right D A) (bottom D A) (offset lab g) (entering s) j)
      (right D A (chosen (left D A) (top D A) (right D A) (bottom D A) (offset lab g) (entering s) j)) 0 := by
  rw [result_eq]
  refine (carried_x2 x0 x1 (boxes hi hg) (entering_holds hi) (out_le_entering s) j (by omega) 300 h (by omega)).trans ?_
  rfl

/-- Row `j` of the kernel's output: round `j`'s, for each of the 300 rounds. -/
theorem result_y2 (j : ℕ) (h : j < 300) : (result (F := Ideal) x0 x1 x2 x3 x4 x5 x6 x7 x8 x9).2.2.2.2.1 (lane j (by omega))
    = row (alive (left D A) (top D A) (right D A) (bottom D A) (offset lab g) (entering s) j)
      (bottom D A (chosen (left D A) (top D A) (right D A) (bottom D A) (offset lab g) (entering s) j)) 0 := by
  rw [result_eq]
  refine (carried_y2 x0 x1 (boxes hi hg) (entering_holds hi) (out_le_entering s) j (by omega) 300 h (by omega)).trans ?_
  rfl

/-- Row `j` of the kernel's output: round `j`'s, for each of the 300 rounds. -/
theorem result_score (j : ℕ) (h : j < 300) : (result (F := Ideal) x0 x1 x2 x3 x4 x5 x6 x7 x8 x9).2.2.2.2.2.1 (lane j (by omega))
    = row (alive (left D A) (top D A) (right D A) (bottom D A) (offset lab g) (entering s) j)
      (s (chosen (left D A) (top D A) (right D A) (bottom D A) (offset lab g) (entering s) j)) 0 := by
  rw [result_eq]
  refine (carried_score x0 x1 (boxes hi hg) (entering_holds hi) (out_le_entering s) j (by omega) 300 h (by omega)).trans ?_
  rw [hi.h0, padded_lt]

/-- Row `j` of the kernel's output: round `j`'s, for each of the 300 rounds. -/
theorem result_label (j : ℕ) (h : j < 300) : (result (F := Ideal) x0 x1 x2 x3 x4 x5 x6 x7 x8 x9).2.2.2.2.2.2 (lane j (by omega))
    = row (alive (left D A) (top D A) (right D A) (bottom D A) (offset lab g) (entering s) j)
      (lab (chosen (left D A) (top D A) (right D A) (bottom D A) (offset lab g) (entering s) j)) 4294967295#32 := by
  rw [result_eq]
  refine (carried_label x0 x1 (boxes hi hg) (entering_holds hi) (out_le_entering s) j (by omega) 300 h (by omega)).trans ?_
  rw [hi.h1, padded_lt]

end

end Cert.Proof.KernelIdeal

end
-- ==== Proof.TopKRead.lean ====
/-
  Hand-written, untrusted. A top-k over the extended reals read at an index: along a vector, and along the rows of a matrix.
-/
module

public import proofs.«01_k».proof.Proof.Ranking
public import Idealize.ShloMosaic.Lib.SortFacts
public import Idealize.ShloMosaic.Lib.Pointwise

@[expose] public section

noncomputable section

namespace Cert.Proof

open Idealize.ShloMosaic

/-- The sort's comparison of scores says which is greater. -/
theorem gt_eq {n : ℕ} (y : Fin n → EReal) :
    (fun k k' : Fin n => (FloatOps.cmpfTotal (F := Ideal) (φ := .f32) .gt (y k) (y k') == 1#1)) = fun k k' => decide (y k' < y k) := by
  funext k k'
  show (BitVec.ofBool (decide (y k' < y k)) == 1#1) = _
  cases decide (y k' < y k) <;> rfl

/-- The sort by that comparison is the ranking, which breaks ties by place. -/
theorem sortedFrom_cmpf {n : ℕ} (y : Fin n → EReal) :
    sortedFrom (fun k k' : Fin n => (FloatOps.cmpfTotal (F := Ideal) (φ := .f32) .gt (y k) (y k') == 1#1)) = rank y := by
  rw [gt_eq, sortedFrom_gt]; rfl

section Vector

variable {n k : ℕ} (x : FVec Ideal ⟨1, ![n]⟩ .f32) (h : (⟨1, ![n]⟩ : Shape).Slices (fun _ => 0) ⟨1, ![k]⟩) (hk : k ≤ n) (j : Fin k)

/-- An index of a list, moved along its only axis. -/
theorem along1 (J : (⟨1, ![n]⟩ : Shape).Idx) (i : Fin n) : J.along (0 : Fin 1) i = ix1 i := by
  funext a
  match a with
  | 0 => rfl

/-- Where entry `j` of a leading part of a vector is read from. -/
def at1 : (⟨1, ![n]⟩ : Shape).Idx :=
  fun a => ⟨0 + (ix1 j (a.cast h.1.symm)).val, Nat.lt_of_lt_of_le (Nat.add_lt_add_left (ix1 j _).isLt _) (h.2 a)⟩

/-- A list read in sorted order at a rank. -/
theorem sorted_along1 (u : Fin n → (⟨1, ![n]⟩ : Shape).Idx) (hu : ∀ i, u i = ix1 i) (q q' : Fin n) (hq : q = q') :
    u (sortedFrom (fun i i' : Fin n => FloatOps.cmpfTotal (F := Ideal) (φ := .f32) .gt (x (u i)) (x (u i')) == 1#1) q)
      = ix1 (rank (fun i : Fin n => x (ix1 i)) q') := by
  obtain rfl : u = fun i => ix1 i := funext hu
  subst hq
  show ix1 (sortedFrom (fun k k' : Fin n => (FloatOps.cmpfTotal (F := Ideal) (φ := .f32) .gt ((fun i : Fin n => x (ix1 i)) k) ((fun i : Fin n => x (ix1 i)) k') == 1#1)) q) = _
  rw [sortedFrom_cmpf (fun i : Fin n => x (ix1 i))]

/-- The values of a vector's top-k: the `j`-th is the element that ranks `j`-th. -/
theorem topK_fst : (Host.topK (⟨1, ![k]⟩ : Shape) 0 (FloatOps.cmpfTotal (F := Ideal) (φ := .f32) .gt) x h).1 (ix1 j)
    = x (ix1 (rank (fun i : Fin n => x (ix1 i)) (j.castLE hk))) :=
  congrArg x (sorted_along1 x (fun i => (at1 h j).along (0 : Fin 1) i) (along1 _) (at1 h j 0) (j.castLE hk) (Fin.ext (Nat.zero_add _)))

/-- The indices of a vector's top-k. -/
theorem topK_snd : (Host.topK (⟨1, ![k]⟩ : Shape) 0 (FloatOps.cmpfTotal (F := Ideal) (φ := .f32) .gt) x h).2 (ix1 j)
    = BitVec.ofNat 32 (rank (fun i : Fin n => x (ix1 i)) (j.castLE hk)).val :=
  congrArg (fun v : (⟨1, ![n]⟩ : Shape).Idx => BitVec.ofNat 32 (v 0).val)
    (sorted_along1 x (fun i => (at1 h j).along (0 : Fin 1) i) (along1 _) (at1 h j 0) (j.castLE hk) (Fin.ext (Nat.zero_add _)))

end Vector

section Rows

variable {r n k : ℕ} (x : FVec Ideal ⟨2, ![r, n]⟩ .f32) (h : (⟨2, ![r, n]⟩ : Shape).Slices (fun _ => 0) ⟨2, ![r, k]⟩) (hk : k ≤ n)
  (i : Fin r) (j : Fin k)

/-- An index of a matrix, moved along its row. -/
theorem along2 (J : (⟨2, ![r, n]⟩ : Shape).Idx) (hJ : J 0 = i) (l : Fin n) : J.along (1 : Fin 2) l = ix2 i l := by
  subst hJ
  funext a
  match a with
  | 0 => rfl
  | 1 => rfl

/-- Where entry `(i, j)` of the leading columns of a matrix is read from. -/
def at2 : (⟨2, ![r, n]⟩ : Shape).Idx :=
  fun a => ⟨0 + (ix2 i j (a.cast h.1.symm)).val, Nat.lt_of_lt_of_le (Nat.add_lt_add_left (ix2 i j _).isLt _) (h.2 a)⟩

/-- A row read in sorted order at a rank. -/
theorem sorted_along2 (u : Fin n → (⟨2, ![r, n]⟩ : Shape).Idx) (hu : ∀ l, u l = ix2 i l) (q q' : Fin n) (hq : q = q') :
    u (sortedFrom (fun l l' : Fin n => FloatOps.cmpfTotal (F := Ideal) (φ := .f32) .gt (x (u l)) (x (u l')) == 1#1) q)
      = ix2 i (rank (fun l : Fin n => x (ix2 i l)) q') := by
  obtain rfl : u = fun l => ix2 i l := funext hu
  subst hq
  show ix2 i (sortedFrom (fun k k' : Fin n => (FloatOps.cmpfTotal (F := Ideal) (φ := .f32) .gt ((fun l : Fin n => x (ix2 i l)) k) ((fun l : Fin n => x (ix2 i l)) k') == 1#1)) q) = _
  rw [sortedFrom_cmpf (fun l : Fin n => x (ix2 i l))]

/-- The values of the rows' top-k: row `i`'s `j`-th is the element that ranks `j`-th in the row. -/
theorem topK_rows_fst : (Host.topK (⟨2, ![r, k]⟩ : Shape) 1 (FloatOps.cmpfTotal (F := Ideal) (φ := .f32) .gt) x h).1 (ix2 i j)
    = x (ix2 i (rank (fun l : Fin n => x (ix2 i l)) (j.castLE hk))) :=
  congrArg x (sorted_along2 x i (fun l => (at2 h i j).along (1 : Fin 2) l) (along2 i _ (Fin.ext (Nat.zero_add _))) (at2 h i j 1) (j.castLE hk)
    (Fin.ext (Nat.zero_add _)))

/-- The indices of the rows' top-k. -/
theorem topK_rows_snd : (Host.topK (⟨2, ![r, k]⟩ : Shape) 1 (FloatOps.cmpfTotal (F := Ideal) (φ := .f32) .gt) x h).2 (ix2 i j)
    = BitVec.ofNat 32 (rank (fun l : Fin n => x (ix2 i l)) (j.castLE hk)).val :=
  congrArg (fun v : (⟨2, ![r, n]⟩ : Shape).Idx => BitVec.ofNat 32 (v 1).val)
    (sorted_along2 x i (fun l => (at2 h i j).along (1 : Fin 2) l) (along2 i _ (Fin.ext (Nat.zero_add _))) (at2 h i j 1) (j.castLE hk)
    (Fin.ext (Nat.zero_add _)))

end Rows

end Cert.Proof

end
-- ==== Proof.TwoRounds.lean ====
/-
  Hand-written, untrusted. The kernel's top-k in two rounds, forty rows first and then the rows' selections, finds what one top-k over
  the whole vector finds: its values, and its places.
-/
module

public import proofs.«01_k».proof.Proof.KernelIdealRun
public import proofs.«01_k».proof.Proof.TopKRead
public import Idealize.ShloMosaic.Lib.StableHlo.ReadAt
public import Idealize.ShloMosaic.Lib.Routing.OpsSet
public import Idealize.ShloMosaic.Lib.Tactic.WordOmega

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo

variable (X : FVec Ideal S1820000 .f32)

/-- The scores as forty rows. -/
def rows : FVec Ideal S40x45500 .f32 := shapeCast S40x45500 X shapeCasts_S1820000_S40x45500

/-- The rows' selections, laid end to end. -/
def cand : FVec Ideal S40000 .f32 :=
  shapeCast S40000 (Host.topK S40x1000 1 (FloatOps.cmpfTotal .gt) (rows X) sliceFits_S40x45500_S40x1000).1 shapeCasts_S40x1000_S40000

/-- Their places in the whole vector. -/
def candAt : IVec S40000 32 :=
  shapeCast S40000 (addi (Host.topK S40x1000 1 (FloatOps.cmpfTotal .gt) (rows X) sliceFits_S40x45500_S40x1000).2
    (broadcastInDim S40x1000 ![0, 1] bcast_S40x1_S40x1000_0_1 (broadcastInDim S40x1 ![0] bcast_S40_S40x1_0
      (muli (iotaInDim S40 32 0) (broadcastInDim S40 ![] bcast_S_S40 (constantI S_ 32 45500#32)))))) shapeCasts_S40x1000_S40000

/-- The second round's places among the selections. -/
def placed : IVec S1000 32 := (Host.topK S1000 0 (FloatOps.cmpfTotal .gt) (cand X) sliceFits_S40000_S1000).2

/-- The same, counted from the end where negative. -/
def wrapped : IVec S1000x1 32 :=
  broadcastInDim S1000x1 ![0] bcast_S1000_S1000x1_0 (select (cmpi .slt (placed X) (broadcastInDim S1000 ![] bcast_S_S1000 (constantI S_ 32 0#32)))
    (addi (placed X) (broadcastInDim S1000 ![] bcast_S_S1000 (constantI S_ 32 40000#32))) (placed X))

/-- The scores the two rounds leave, as operations on the masked scores. -/
theorem values_read (V : Valuation τ sig (Elt Ideal)) : (after hostOps0_2 V main_values_3 : FVec Ideal S1000 .f32)
    = (Host.topK S1000 0 (FloatOps.cmpfTotal .gt) (cand (V main_v9)) sliceFits_S40000_S1000).1 := by
  after_reads_simp
  all_goals try simp -implicitDefEqProofs only [StableHlo.TRef.toBuf, StableHlo.TRef.ofBuf, cast_cast, cast_eq]
  rfl

/-- The places the two rounds leave, as operations on the masked scores. -/
theorem places_read (V : Valuation τ sig (Elt Ideal)) : (after hostOps0_2 V main_v25 : IVec S1000 32)
    = Host.gather gather_S40000_S1000x1_S1000_n_0_n_n_0_1_1 (candAt (V main_v9)) (wrapped (V main_v9)) := by
  after_reads_simp
  all_goals try simp -implicitDefEqProofs only [StableHlo.TRef.toBuf, StableHlo.TRef.ofBuf, cast_cast, cast_eq]
  rfl

/-- The scores as a function of the place. -/
def flat : Fin (40 * 45500) → EReal := fun k : Fin 1820000 => X (ix1 k)

/-- The matrix of rows holds the flat list row by row. -/
theorem rows_at (r : Fin 40) (l : Fin 45500) : rows X (ix2 r l) = rowOf (flat X) r l := by
  unfold rows rowOf flat
  pointwise
  refine congrArg (fun q : Fin 1820000 => X (ix1 q)) (Fin.ext ?_)
  show r.val * 45500 + l.val = (finProdFinEquiv (r, l) : Fin (40 * 45500)).val
  rw [finProdFinEquiv_apply_val]
  dsimp only
  omega

/-- A row of the matrix is that stretch of the flat list. -/
theorem rows_row (r : Fin 40) : (fun l : Fin 45500 => rows X (ix2 r l)) = rowOf (flat X) r := funext (rows_at X r)

/-- A candidate's score is a row winner's score. -/
theorem cand_at (p : Fin 40000) : cand X (ix1 p) = selected (K := 1000) (show 1000 ≤ 45500 by omega) (flat X) p := by
  unfold cand
  pointwise
  rw [topK_rows_fst (rows X) sliceFits_S40x45500_S40x1000 (by omega), rows_row, rows_at]
  rfl

/-- A candidate's place is where the row winner comes from. -/
theorem candAt_at (p : Fin 40000) : candAt X (ix1 p) = BitVec.ofNat 32 (source (K := 1000) (show 1000 ≤ 45500 by omega) (flat X) p).val := by
  unfold candAt
  pointwise
  rw [topK_rows_snd (rows X) sliceFits_S40x45500_S40x1000 (by omega), rows_row]
  have e : (source (K := 1000) (show 1000 ≤ 45500 by omega) (flat X) p).val
      = (rank (rowOf (flat X) (⟨p.val / 1000, by omega⟩ : Fin 40)) ((⟨p.val % 1000, by omega⟩ : Fin 1000).castLE (by omega))).val + 45500 * (p.val / 1000) := by
    unfold source
    rw [finProdFinEquiv_apply_val]
    rfl
  rw [e]
  show _ + BitVec.ofNat 32 (p.val / 1000) * BitVec.ofNat 32 45500 = _
  rw [← BitVec.ofNat_mul, ← BitVec.ofNat_add, Nat.mul_comm (p.val / 1000)]

/-- The candidates' scores are the row winners' scores. -/
theorem cand_selected : (fun p : Fin 40000 => cand X (ix1 p)) = selected (K := 1000) (show 1000 ≤ 45500 by omega) (flat X) := funext (cand_at X)

/-- The best of the rows' winners come from the places that are the best of all. -/
theorem two_rounds (i : Fin 1000) : source (K := 1000) (show 1000 ≤ 45500 by omega) (flat X)
      (rank (fun p : Fin 40000 => cand X (ix1 p)) (i.castLE (by omega)))
    = rank (fun k : Fin 1820000 => X (ix1 k)) (i.castLE (by omega)) := by
  rw [cand_selected]
  exact (rank_two_rounds (K := 1000) (show 1000 ≤ 45500 by omega) (flat X) (by omega) (by omega) i).symm

/-- A rank among candidates is not negative, so wrapping leaves it as it is. -/
theorem wrapped_at (i : Fin 1000) : wrapped X (ix2 i (0 : Fin 1))
    = BitVec.ofNat 32 (rank (fun p : Fin 40000 => cand X (ix1 p)) (i.castLE (by omega))).val := by
  have e : placed X (ix1 i) = BitVec.ofNat 32 (rank (fun p : Fin 40000 => cand X (ix1 p)) (i.castLE (by omega))).val :=
    topK_snd (cand X) sliceFits_S40000_S1000 (by omega) i
  unfold wrapped
  pointwise
  rw [e]
  have h := (rank (fun p : Fin 40000 => cand X (ix1 p)) (i.castLE (by omega))).isLt
  generalize (rank (fun p : Fin 40000 => cand X (ix1 p)) (i.castLE (by omega))).val = q at h ⊢
  word_omega

/-- The values found in two rounds are the values of one top-k over the whole vector. -/
theorem values_eq (V : Valuation τ sig (Elt Ideal)) (i : Fin 1000) : (after hostOps0_2 V main_values_3 : FVec Ideal S1000 .f32) (ix1 i)
    = (V main_v9 : FVec Ideal S1820000 .f32) (ix1 (rank (fun k : Fin 1820000 => (V main_v9 : FVec Ideal S1820000 .f32) (ix1 k)) (i.castLE (by omega)))) := by
  rw [values_read, topK_fst (cand (V main_v9)) sliceFits_S40000_S1000 (by omega) i, cand_at, ← two_rounds]
  rfl

/-- The places found in two rounds are its places. -/
theorem places_eq (V : Valuation τ sig (Elt Ideal)) (i : Fin 1000) : (after hostOps0_2 V main_v25 : IVec S1000 32) (ix1 i)
    = BitVec.ofNat 32 (rank (fun k : Fin 1820000 => (V main_v9 : FVec Ideal S1820000 .f32) (ix1 k)) (i.castLE (by omega))).val := by
  rw [places_read]
  refine (Routing.gather_take1 gather_S40000_S1000x1_S1000_n_0_n_n_0_1_1 rfl rfl rfl rfl (candAt (V main_v9)) (wrapped (V main_v9)) i _
    (wrapped_at (V main_v9) i) (by norm_num)).trans ?_
  refine (candAt_at (V main_v9) _).trans ?_
  rw [two_rounds]

end Cert.Proof.KernelIdeal

end
-- ==== Proof.KernelPrefix.lean ====
/-
  Hand-written, untrusted. What the kernel of `KernelIdeal` finds in its inputs: the thousand best scores, their classes, and the shifts
  and the anchors taken at their anchors' numbers, each padded with zeros to a tile.
-/
module

public import proofs.«01_k».proof.Proof.KernelTiles
public import proofs.«01_k».proof.Proof.TwoRounds

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo

/-- The scores of the flattened matrix, those that are not high enough set to zero. -/
def masked (x : FVec Ideal S20000x91 .f32) : FVec Ideal S1820000 .f32 :=
  let y := shapeCast S1820000 (Host.divf (broadcastInDim S20000x91 ![] bcast_S_S20000x91 (constant S_ .f32 0x3F800000#32))
    (addf (broadcastInDim S20000x91 ![] bcast_S_S20000x91 (constant S_ .f32 0x3F800000#32)) (Host.exp (Host.negf x)))) shapeCasts_S20000x91_S1820000
  select (cmpf .ogt y (broadcastInDim S1820000 ![] bcast_S_S1820000 (constant S_ .f32 0x3D4CCCCD#32))) y
    (broadcastInDim S1820000 ![] bcast_S_S1820000 (constant S_ .f32 0x00000000#32))

/-- Rows taken at the numbers given, a negative one counted from the end. -/
def taken (x : FVec Ideal S20000x4 .f32) (w : IVec S1000 32) : FVec Ideal S1000x4 .f32 :=
  Host.gather gather_S20000x4_S1000x1_S1000x4_1_0_n_n_0_1_14 x (broadcastInDim S1000x1 ![0] bcast_S1000_S1000x1_0
    (select (cmpi .slt w (broadcastInDim S1000 ![] bcast_S_S1000 (constantI S_ 32 0#32)))
      (addi w (broadcastInDim S1000 ![] bcast_S_S1000 (constantI S_ 32 20000#32))) w))

section

variable (x : FVec Ideal S20000x91 .f32) (y : FVec Ideal S20000x4 .f32)

/-- The places of the thousand best scores, in order. -/
def place (i : Fin 1000) : Fin 1820000 := rank (fun k : Fin 1820000 => masked x (ix1 k)) (i.castLE (by omega))
/-- The scores there. -/
def best (i : Fin 1000) : EReal := masked x (ix1 (place x i))
/-- Their classes. -/
def cls (i : Fin 1000) : BitVec 32 := classOf (BitVec.ofNat 32 (place x i).val)
/-- Their anchors. -/
def anchors : IVec S1000 32 := fun i => anchorOf (BitVec.ofNat 32 (place x (i 0)).val)
/-- The rows of a list of anchors' quadruples there. -/
def quad (i : Fin 1000) (k : Fin 4) : EReal := taken y (anchors x) (ix2 i k)

end

variable (V : Valuation τ sig (Elt Ideal))

/-- The operations before the top-k. -/
abbrev heads : List (HloOp τ sig (Elt Ideal)) := hostOps0 ++ hostOps0_1
/-- The operations that turn places into anchors and classes. -/
abbrev mids : List (HloOp τ sig (Elt Ideal)) := hostOps0_3 ++ hostOps0_4 ++ hostOps0_5
/-- The operations that pad the lists and lay them out as tiles. -/
abbrev tiles : List (HloOp τ sig (Elt Ideal)) := List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

/-- The operations before the top-k leave the masked scores. -/
theorem heads_v9 : (after heads V main_v9 : FVec Ideal S1820000 .f32) = masked (V main_arg0) := by
  after_reads_simp
  all_goals try simp -implicitDefEqProofs only [StableHlo.TRef.toBuf, StableHlo.TRef.ofBuf, cast_cast, cast_eq]
  rfl

/-- The number of classes. -/
theorem two_c7 : (after hostOps0_2 V main_c_7 : IVec S_ 32) = constantI S_ 32 91#32 := by
  after_reads_simp

/-- A place divided by the number of classes is its anchor's number. -/
theorem mids_v26 (hc : (V main_c_7 : IVec S_ 32) = constantI S_ 32 91#32) (i : Fin 1000) :
    (after mids V main_v26 : IVec S1000 32) (ix1 i) = anchorOf ((V main_v25 : IVec S1000 32) (ix1 i)) := by
  after_reads_at
  rw [hc]
  rfl

/-- A place's remainder is its class. -/
theorem mids_v27 (i : Fin 1000) : (after mids V main_v27 : IVec S1000 32) (ix1 i) = classOf ((V main_v25 : IVec S1000 32) (ix1 i)) := by
  after_reads_at
  rfl

/-- The operations before the top-k keep the second argument. -/
theorem heads_arg1 : after heads V main_arg1 = V main_arg1 := by after_reads_simp
/-- The operations before the top-k keep the third argument. -/
theorem heads_arg2 : after heads V main_arg2 = V main_arg2 := by after_reads_simp
/-- The top-k keeps the second argument. -/
theorem two_arg1 : after hostOps0_2 V main_arg1 = V main_arg1 := by after_reads_simp
/-- The top-k keeps the third argument. -/
theorem two_arg2 : after hostOps0_2 V main_arg2 = V main_arg2 := by after_reads_simp
/-- The operations on places keep the second argument. -/
theorem mids_arg1 : after mids V main_arg1 = V main_arg1 := by after_reads_simp
/-- The operations on places keep the third argument. -/
theorem mids_arg2 : after mids V main_arg2 = V main_arg2 := by after_reads_simp
/-- The operations on places keep the best scores. -/
theorem mids_values : after mids V main_values_3 = V main_values_3 := by after_reads_simp

/-- The padding word, as a number, is zero. -/
theorem zero_word : FloatOps.sitofp (F := Ideal) FTy.f32 (0#32 : BitVec 32) = (0 : EReal) := by
  show ((BitVec.toInt 0#32 : ℝ) : EReal) = 0
  simp

/-- A tile read lane by lane, from its rows and columns. -/
theorem at_lane {α : Type} (x : S8x128.Idx → α) (f : ℕ → α) (H : ∀ (a : Fin 8) (b : Fin 128), x (ix2 a b) = f (a.val * 128 + b.val))
    (j : ℕ) (h : j < 1024) : x (lane j h) = f j := by
  unfold lane
  refine (H _ _).trans (congrArg f ?_)
  show j / 128 * 128 + j % 128 = j
  omega

/-- A padded list, read at a lane. -/
theorem padded_eq {f : Fin 1000 → EReal} {j : ℕ} :
    (if h : j < 1000 then f ⟨j, h⟩ else FloatOps.sitofp (F := Ideal) FTy.f32 (0#32 : BitVec 32)) = padded f (0 : EReal) j := by
  rw [zero_word]; rfl

/-- The values, classes and rows a tile is padded from. -/
abbrev vals (i : Fin 1000) : EReal := (V main_values_3 : FVec Ideal S1000 .f32) (ix1 i)
/-- The classes of the best scores. -/
abbrev classes (i : Fin 1000) : BitVec 32 := (V main_v27 : IVec S1000 32) (ix1 i)
/-- The rows of shifts taken for the best scores. -/
abbrev shifts (i : Fin 1000) (k : Fin 4) : EReal := taken (V main_arg1) (V main_v26) (ix2 i k)
/-- The rows of anchors taken for the best scores. -/
abbrev bases (i : Fin 1000) (k : Fin 4) : EReal := taken (V main_arg2) (V main_v26) (ix2 i k)

/-- The tile of scores, padded. -/
theorem tiles_v43 : ∀ j h, (after tiles V main_v43 : FVec Ideal S8x128 .f32) (lane j h) = padded (vals V) 0 j := by
  refine at_lane _ _ fun a b => ?_
  after_reads_at
  exact padded_eq (f := vals V)
/-- The tile of classes, padded. -/
theorem tiles_v45 : ∀ j h, (after tiles V main_v45 : IVec S8x128 32) (lane j h) = padded (classes V) 0#32 j := by
  refine at_lane _ _ fun a b => ?_
  after_reads_at
  rfl
/-- The tile of the shifts' column 0, padded. -/
theorem tiles_v49 : ∀ j h, (after tiles V main_v49 : FVec Ideal S8x128 .f32) (lane j h) = padded (shifts V · 0) 0 j := by
  refine at_lane _ _ fun a b => ?_
  after_reads_at
  exact padded_eq (f := (shifts V · 0))
/-- The tile of the shifts' column 1, padded. -/
theorem tiles_v53 : ∀ j h, (after tiles V main_v53 : FVec Ideal S8x128 .f32) (lane j h) = padded (shifts V · 1) 0 j := by
  refine at_lane _ _ fun a b => ?_
  after_reads_at
  exact padded_eq (f := (shifts V · 1))
/-- The tile of the shifts' column 2, padded. -/
theorem tiles_v57 : ∀ j h, (after tiles V main_v57 : FVec Ideal S8x128 .f32) (lane j h) = padded (shifts V · 2) 0 j := by
  refine at_lane _ _ fun a b => ?_
  after_reads_at
  exact padded_eq (f := (shifts V · 2))
/-- The tile of the shifts' column 3, padded. -/
theorem tiles_v61 : ∀ j h, (after tiles V main_v61 : FVec Ideal S8x128 .f32) (lane j h) = padded (shifts V · 3) 0 j := by
  refine at_lane _ _ fun a b => ?_
  after_reads_at
  exact padded_eq (f := (shifts V · 3))
/-- The tile of the anchors' column 0, padded. -/
theorem tiles_v65 : ∀ j h, (after tiles V main_v65 : FVec Ideal S8x128 .f32) (lane j h) = padded (bases V · 0) 0 j := by
  refine at_lane _ _ fun a b => ?_
  after_reads_at
  exact padded_eq (f := (bases V · 0))
/-- The tile of the anchors' column 1, padded. -/
theorem tiles_v69 : ∀ j h, (after tiles V main_v69 : FVec Ideal S8x128 .f32) (lane j h) = padded (bases V · 1) 0 j := by
  refine at_lane _ _ fun a b => ?_
  after_reads_at
  exact padded_eq (f := (bases V · 1))
/-- The tile of the anchors' column 2, padded. -/
theorem tiles_v73 : ∀ j h, (after tiles V main_v73 : FVec Ideal S8x128 .f32) (lane j h) = padded (bases V · 2) 0 j := by
  refine at_lane _ _ fun a b => ?_
  after_reads_at
  exact padded_eq (f := (bases V · 2))
/-- The tile of the anchors' column 3, padded. -/
theorem tiles_v77 : ∀ j h, (after tiles V main_v77 : FVec Ideal S8x128 .f32) (lane j h) = padded (bases V · 3) 0 j := by
  refine at_lane _ _ fun a b => ?_
  after_reads_at
  exact padded_eq (f := (bases V · 3))

/-- The host's operations before the launch, in four stretches. -/
theorem stages : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) V
    = after tiles (after mids (after hostOps0_2 (after heads V))) := by
  rw [show List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]
    = heads ++ (hostOps0_2 ++ (mids ++ (tiles : List (HloOp τ sig (Elt Ideal))))) from by
      simp only [heads, mids, tiles, List.flatten_cons, List.append_assoc]]
  rw [StableHlo.after_append, StableHlo.after_append, StableHlo.after_append]

/-- The values the launch finds in its inputs. -/
def atLaunch : Valuation τ sig (Elt Ideal) := after mids (after hostOps0_2 (after heads V))

/-- The scores at the launch are the best scores. -/
theorem vals_eq : vals (atLaunch V) = best (V main_arg0) := by
  funext i
  show (after mids (after hostOps0_2 (after heads V)) main_values_3 : FVec Ideal S1000 .f32) (ix1 i) = _
  rw [mids_values]
  refine (values_eq _ i).trans ?_
  rw [heads_v9]
  rfl

/-- The places the top-k leaves. -/
theorem places_at (i : Fin 1000) : (after hostOps0_2 (after heads V) main_v25 : IVec S1000 32) (ix1 i) = BitVec.ofNat 32 (place (V main_arg0) i).val := by
  refine (places_eq _ i).trans ?_
  rw [heads_v9]
  rfl

/-- The classes at the launch are the best scores' classes. -/
theorem classes_eq : classes (atLaunch V) = cls (V main_arg0) := by
  funext i
  refine (mids_v27 _ i).trans ?_
  rw [places_at]
  rfl

/-- The anchors the best scores belong to. -/
theorem anchors_eq : (atLaunch V main_v26 : IVec S1000 32) = anchors (V main_arg0) := by
  refine funext fun (i : S1000.Idx) => ?_
  obtain ⟨q, rfl⟩ : ∃ q : Fin 1000, i = ix1 q := ⟨i 0, by funext k; match k with | ⟨0, _⟩ => rfl⟩
  exact (mids_v26 _ (two_c7 _) q).trans (congrArg anchorOf (places_at V q))

/-- The shifts taken are the best scores' shifts. -/
theorem shifts_eq : shifts (atLaunch V) = quad (V main_arg0) (V main_arg1) := by
  funext i k
  unfold shifts quad
  rw [anchors_eq]
  show taken (after mids (after hostOps0_2 (after heads V)) main_arg1) _ _ = _
  rw [mids_arg1, two_arg1, heads_arg1]

/-- The anchors taken are the best scores' anchors. -/
theorem bases_eq : bases (atLaunch V) = quad (V main_arg0) (V main_arg2) := by
  funext i k
  unfold bases quad
  rw [anchors_eq]
  show taken (after mids (after hostOps0_2 (after heads V)) main_arg2) _ _ = _
  rw [mids_arg2, two_arg2, heads_arg2]

/-- What the launch finds in its inputs, from the arguments alone. -/
theorem inputs_at : Inputs (best (V main_arg0)) (cls (V main_arg0)) (quad (V main_arg0) (V main_arg1)) (quad (V main_arg0) (V main_arg2))
    (after tiles (atLaunch V) main_v43) (after tiles (atLaunch V) main_v45) (after tiles (atLaunch V) main_v49) (after tiles (atLaunch V) main_v53)
    (after tiles (atLaunch V) main_v57) (after tiles (atLaunch V) main_v61) (after tiles (atLaunch V) main_v65) (after tiles (atLaunch V) main_v69)
    (after tiles (atLaunch V) main_v73) (after tiles (atLaunch V) main_v77) := by
  rw [← vals_eq, ← classes_eq, ← shifts_eq, ← bases_eq]
  exact ⟨tiles_v43 _, tiles_v45 _, tiles_v49 _, tiles_v53 _, tiles_v57 _, tiles_v61 _, tiles_v65 _, tiles_v69 _, tiles_v73 _, tiles_v77 _⟩

end Cert.Proof.KernelIdeal

end
-- ==== Proof.KernelTail.lean ====
/-
  Hand-written, untrusted. The kernel's results at the end of its run, from the arguments at its start.
-/
module

public import proofs.«01_k».proof.Proof.KernelPrefix
public import proofs.«01_k».proof.Proof.KernelIdealRun
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD) (t : Fin cfg0.N)

/-- The buffers of a core at the start, and at the launch. -/
abbrev start : Valuation τ sig (Elt Ideal) := fun b => m (c, b)
/-- The buffers of a core at the launch. -/
abbrev atRegion : Valuation τ sig (Elt Ideal) := after tiles (atLaunch (start m c))

/-- The buffers the launch finds, in stretches. -/
theorem region_eq : V0 m c = atRegion m c := stages _

/-- Each input's only block begins at the array's first element. -/
theorem input_index : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] := by decide +kernel

set_option maxHeartbeats 2000000 in
/-- Each input is staged whole. -/
theorem staged : iblk m c 0 t = V0 m c main_v43 ∧ iblk m c 1 t = V0 m c main_v45 ∧ iblk m c 2 t = V0 m c main_v49 ∧ iblk m c 3 t = V0 m c main_v53 ∧ iblk m c 4 t = V0 m c main_v57 ∧ iblk m c 5 t = V0 m c main_v61 ∧ iblk m c 6 t = V0 m c main_v65 ∧ iblk m c 7 t = V0 m c main_v69 ∧ iblk m c 8 t = V0 m c main_v73 ∧ iblk m c 9 t = V0 m c main_v77 := by
  refine ⟨?_, ?_, ?_, ?_, ?_, ?_, ?_, ?_, ?_, ?_⟩ <;>
    (funext i
     blk_ext [iblk, input_index])

/-- The staged inputs hold the padded lists. -/
theorem inputs_staged : Inputs (best (start m c main_arg0)) (cls (start m c main_arg0)) (quad (start m c main_arg0) (start m c main_arg1))
    (quad (start m c main_arg0) (start m c main_arg2)) (iblk m c 0 t) (iblk m c 1 t) (iblk m c 2 t) (iblk m c 3 t) (iblk m c 4 t) (iblk m c 5 t) (iblk m c 6 t) (iblk m c 7 t) (iblk m c 8 t) (iblk m c 9 t) := by
  obtain ⟨h0, h1, h2, h3, h4, h5, h6, h7, h8, h9⟩ := staged m c t
  rw [h0, h1, h2, h3, h4, h5, h6, h7, h8, h9, region_eq]
  exact inputs_at (start m c)

/-- The only point of the grid. -/
abbrev only : Fin cfg0.N := ⟨0, by decide⟩

/-- Each output array ends at what the kernel left in its staging buffer. -/
theorem written : (dats m 0 c).arrAt 10 cfg0.N = (dats m 0 c).after 10 only ∧ (dats m 0 c).arrAt 11 cfg0.N = (dats m 0 c).after 11 only ∧ (dats m 0 c).arrAt 12 cfg0.N = (dats m 0 c).after 12 only ∧ (dats m 0 c).arrAt 13 cfg0.N = (dats m 0 c).after 13 only ∧ (dats m 0 c).arrAt 14 cfg0.N = (dats m 0 c).after 14 only ∧ (dats m 0 c).arrAt 15 cfg0.N = (dats m 0 c).after 15 only := by
  refine ⟨?_, ?_, ?_, ?_, ?_, ?_⟩ <;>
    (refine (dats m 0 c).arrAt_eq_of_after_last _ only (by decide +kernel) _ (fun j => ?_)
     blk_simp)

/-- The buffers when the launch has ended. -/
def afterRegion : Valuation τ sig (Elt Ideal) := Pipeline.withArrays spec0 c (V0 m c) fun w => (dats m 0 c).arrAt w cfg0.N

/-- Each window's array after the launch. -/
theorem region_out (w : Fin 16) : afterRegion m c (Proc.devRef .tc (Pipeline.arrRef spec0 w)) = (dats m 0 c).arrAt w cfg0.N :=
  Pipeline.withArrays_arr spec0 launch0.win.arr_inj c (V0 m c) _ w

/-- A buffer's contents at the end are what the operations after the launch compute. -/
theorem tail_eq (b : Ref sig .tc) : Pipeline.afterTail₀ cfgs (dats m) 0 (V0 m) [hostOps1] c b = after hostOps1 (afterRegion m c) b := by
  unfold Pipeline.afterTail₀
  simp only [List.flatten_cons, List.flatten_nil, List.append_nil]
  rfl

section
variable (X : Valuation τ sig (Elt Ideal)) (i : Fin 300)

/-- The boxes returned. -/
abbrev boxOut : FVec Ideal S300x4 .f32 := after hostOps1 X main_v95
/-- The scores returned. -/
abbrev scoreOut : FVec Ideal S300 .f32 := after hostOps1 X main_v88
/-- The classes returned. -/
abbrev labOut : IVec S300 32 := after hostOps1 X main_v90

/-- The returned left side in row `i` is lane `i` of the launch's output. -/
theorem tail_x1 : boxOut X (ix2 i (0 : Fin 4)) = (X main_v78_0 : FVec Ideal S8x128 .f32) (lane i.val (by omega)) := by
  after_reads_at
  after_reads_at
  rfl
/-- The returned top side in row `i` is lane `i` of the launch's output. -/
theorem tail_y1 : boxOut X (ix2 i (1 : Fin 4)) = (X main_v78_1 : FVec Ideal S8x128 .f32) (lane i.val (by omega)) := by
  after_reads_at
  after_reads_at
  rfl
/-- The returned right side in row `i` is lane `i` of the launch's output. -/
theorem tail_x2 : boxOut X (ix2 i (2 : Fin 4)) = (X main_v78_2 : FVec Ideal S8x128 .f32) (lane i.val (by omega)) := by
  after_reads_at
  after_reads_at
  rfl
/-- The returned bottom side in row `i` is lane `i` of the launch's output. -/
theorem tail_y2 : boxOut X (ix2 i (3 : Fin 4)) = (X main_v78_3 : FVec Ideal S8x128 .f32) (lane i.val (by omega)) := by
  after_reads_at
  after_reads_at
  rfl
/-- The returned score in row `i` is lane `i` of the launch's output. -/
theorem tail_score : scoreOut X (ix1 i) = (X main_v78_4 : FVec Ideal S8x128 .f32) (lane i.val (by omega)) := by
  after_reads_at
  rfl
/-- The returned class in row `i` is lane `i` of the launch's output. -/
theorem tail_lab : labOut X (ix1 i) = (X main_v78_5 : IVec S8x128 32) (lane i.val (by omega)) := by
  after_reads_at
  rfl

end

/-- The scores, the classes, the shifts and the anchors of the thousand best. -/
abbrev S (V : Valuation τ sig (Elt Ideal)) := best (V main_arg0)
@[inherit_doc S] abbrev L (V : Valuation τ sig (Elt Ideal)) := cls (V main_arg0)
@[inherit_doc S] abbrev D (V : Valuation τ sig (Elt Ideal)) := quad (V main_arg0) (V main_arg1)
@[inherit_doc S] abbrev A (V : Valuation τ sig (Elt Ideal)) := quad (V main_arg0) (V main_arg2)

/-- Some box is still in round `k`, the largest coordinate being `g`. -/
abbrev stays (V : Valuation τ sig (Elt Ideal)) (g : EReal) (k : ℕ) : Prop :=
  alive (left (D V) (A V)) (top (D V) (A V)) (right (D V) (A V)) (bottom (D V) (A V)) (offset (L V) g) (entering (S V)) k
/-- The box round `k` takes, the largest coordinate being `g`. -/
abbrev takes (V : Valuation τ sig (Elt Ideal)) (g : EReal) (k : ℕ) : Fin 1000 :=
  chosen (left (D V) (A V)) (top (D V) (A V)) (right (D V) (A V)) (bottom (D V) (A V)) (offset (L V) g) (entering (S V)) k

variable {g : EReal} (hg : Greatest (D (start m c)) (A (start m c)) g) (i : Fin 300)
include hg

/-- The returned left side in row `i`: that of the box round `i` takes, or the empty row's. -/
theorem final_x1 : boxOut (afterRegion m c) (ix2 i (0 : Fin 4))
    = row (stays (start m c) g i.val) (left (D (start m c)) (A (start m c)) (takes (start m c) g i.val)) 0 := by
  refine (tail_x1 _ i).trans ((congrArg (fun u : FVec Ideal S8x128 .f32 => u (lane i.val (by omega))) ((region_out m c 10).trans (written m c).1)).trans ?_)
  exact result_x1 (inputs_staged m c only) hg i.val i.isLt

/-- The returned top side in row `i`: that of the box round `i` takes, or the empty row's. -/
theorem final_y1 : boxOut (afterRegion m c) (ix2 i (1 : Fin 4))
    = row (stays (start m c) g i.val) (top (D (start m c)) (A (start m c)) (takes (start m c) g i.val)) 0 := by
  refine (tail_y1 _ i).trans ((congrArg (fun u : FVec Ideal S8x128 .f32 => u (lane i.val (by omega))) ((region_out m c 11).trans (written m c).2.1)).trans ?_)
  exact result_y1 (inputs_staged m c only) hg i.val i.isLt

/-- The returned right side in row `i`: that of the box round `i` takes, or the empty row's. -/
theorem final_x2 : boxOut (afterRegion m c) (ix2 i (2 : Fin 4))
    = row (stays (start m c) g i.val) (right (D (start m c)) (A (start m c)) (takes (start m c) g i.val)) 0 := by
  refine (tail_x2 _ i).trans ((congrArg (fun u : FVec Ideal S8x128 .f32 => u (lane i.val (by omega))) ((region_out m c 12).trans (written m c).2.2.1)).trans ?_)
  exact result_x2 (inputs_staged m c only) hg i.val i.isLt

/-- The returned bottom side in row `i`: that of the box round `i` takes, or the empty row's. -/
theorem final_y2 : boxOut (afterRegion m c) (ix2 i (3 : Fin 4))
    = row (stays (start m c) g i.val) (bottom (D (start m c)) (A (start m c)) (takes (start m c) g i.val)) 0 := by
  refine (tail_y2 _ i).trans ((congrArg (fun u : FVec Ideal S8x128 .f32 => u (lane i.val (by omega))) ((region_out m c 13).trans (written m c).2.2.2.1)).trans ?_)
  exact result_y2 (inputs_staged m c only) hg i.val i.isLt

/-- The returned score in row `i`: that of the box round `i` takes, or the empty row's. -/
theorem final_score : scoreOut (afterRegion m c) (ix1 i)
    = row (stays (start m c) g i.val) (S (start m c) (takes (start m c) g i.val)) 0 := by
  refine (tail_score _ i).trans ((congrArg (fun u : FVec Ideal S8x128 .f32 => u (lane i.val (by omega))) ((region_out m c 14).trans (written m c).2.2.2.2.1)).trans ?_)
  exact result_score (inputs_staged m c only) hg i.val i.isLt

/-- The returned class in row `i`: that of the box round `i` takes, or the empty row's. -/
theorem final_lab : labOut (afterRegion m c) (ix1 i)
    = row (stays (start m c) g i.val) (L (start m c) (takes (start m c) g i.val)) 4294967295#32 := by
  refine (tail_lab _ i).trans ((congrArg (fun u : IVec S8x128 32 => u (lane i.val (by omega))) ((region_out m c 15).trans (written m c).2.2.2.2.2)).trans ?_)
  exact result_label (inputs_staged m c only) hg i.val i.isLt

end Cert.Proof.KernelIdeal

end
-- ==== Proof.ReferenceStep.lean ====
/-
  Hand-written, untrusted. One trip of the reference's loop, on the extended reals: the next scores and the place kept.
-/
module

public import proofs.«01_k».proof.Proof.ReferenceFrame
public import proofs.«01_k».proof.Proof.Detect
public import proofs.«01_k».proof.Proof.TopKRead
public import Idealize.ShloMosaic.Lib.StableHlo.ReadAt
public import Idealize.ShloMosaic.Lib.Routing.OpsSet
public import Idealize.ShloMosaic.Lib.Routing.OpsOne
public import Idealize.ShloMosaic.Lib.Routing.OpsPair
public import Idealize.ShloMosaic.Lib.DynamicIndex

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

/-- A scatter of one number at one place. -/
theorem scatter_at {α : Type} {N : ℕ} (d : ScatterDims (⟨1, ![N]⟩) S1 S_) (hiw : d.insertedWindowDims = [0]) (hsd : d.scatterDimsToOperandDims = [0])
    (x : (⟨1, ![N]⟩ : Shape).Idx → α) (idx : IVec S1 32) (u : S_.Idx → α) (p : Fin N) (hp : (idx (ix1 (0 : Fin 1))).toInt = p.val) (j : Fin N) :
    Host.scatter d (fun _ b => b) x idx u (ix1 j) = if j = p then u ix0 else x (ix1 j) := by
  have lands : ∀ (k : S_.Idx) (e : Fin N), d.resultIdx? k idx = some (ix1 e) ↔ e = p := fun k e => by
    obtain rfl : k = ix0 := funext fun a => a.elim0
    exact Routing.lands_one d hiw hsd idx p hp e
  split
  · rename_i h
    refine Routing.scatter_set_hit d x idx u _ _ (fun k _ => ?_) ix0 ((lands _ _).2 h)
    exact congrArg u (funext fun a => a.elim0)
  · rename_i h
    exact Routing.scatter_set_miss d x idx u _ fun k hk => h ((lands _ _).1 hk)

variable (V : Valuation τ sig (Elt Ideal))

/-- The boxes' sides and the scores, as functions of the place. -/
abbrev side (k : Fin 4) (j : Fin 1000) : EReal := (V main_v112_0 : FVec Ideal S1000x4 .f32) (ix2 j k)
/-- The scores the loop carries. -/
abbrev now (j : Fin 1000) : EReal := (V main_v112_3 : FVec Ideal S1000 .f32) (ix1 j)

/-- The place chosen, from the scores. -/
theorem first_place (x : FVec Ideal S1000 .f32) (f : Fin 1000 → EReal) (hf : (fun i : Fin 1000 => x (ix1 i)) = f) :
    (Host.topK S1 0 (FloatOps.cmpfTotal .gt) x sliceFits_S1000_S1).2 (ix1 (0 : Fin 1)) = BitVec.ofNat 32 (rank f (0 : Fin 1000)).val := by
  subst hf
  exact topK_snd (n := 1000) (k := 1) x sliceFits_S1000_S1 (by omega) 0

/-- A vector of one number as a scalar. -/
theorem scalar_of (w : IVec S1 32) : shapeCast S_ w shapeCasts_S1_S_ = constantI S_ 32 (w (ix1 (0 : Fin 1))) := by
  funext i
  rw [show i = ix0 from funext fun a => a.elim0]
  pointwise

/-- The place chosen. -/
theorem chosen_word : (res_main_while0b_v145 V : IVec S_ 32) = constantI S_ 32 (BitVec.ofNat 32 (pick (now V)).val) :=
  (scalar_of _).trans (congrArg (constantI S_ 32) (first_place _ (now V) rfl))

/-- The score there. -/
theorem chosen_score : (shapeCast S_ (Host.dynamicSlice S1 (V main_v112_3 : FVec Ideal S1000 .f32) (fun k => (((![select (cmpi .slt (res_main_while0b_v145 V) (constantI S_ 32 0#32)) (addi (res_main_while0b_v145 V) (constantI S_ 32 1000#32)) (res_main_while0b_v145 V)] : Fin 1 → (⟨S_, .i32⟩ : BufTy).Contents (Elt Ideal))) k (Shape.Idx.first h_S_)).toInt) sliceFits_S1000_S1) shapeCasts_S1_S_ : FVec Ideal S_ .f32) ix0 = now V (pick (now V)) := by
  rw [chosen_word]
  generalize pick (now V) = p
  rw [Host.dynamicSlice_eq_extractStridedSlice S1 _ _ ![p.val] sliceFits_S1000_S1 ⟨rfl, fun a => by
    match a with
    | ⟨0, _⟩ => show p.val + 1 ≤ 1000; omega⟩ (fun a => by
    match a with
    | ⟨0, _⟩ => exact toInt_wrap_ofNat p.val (by omega))]
  pointwise

/-- The box there. -/
theorem chosen_box (k : Fin 4) : (res_main_while0b_v166 V : FVec Ideal S4 .f32) (ix1 k) = side V k (pick (now V)) := by
  unfold res_main_while0b_v166
  rw [chosen_word]
  generalize pick (now V) = p
  rw [Host.dynamicSlice_eq_extractStridedSlice S1x4 _ _ ![p.val, 0] sliceFits_S1000x4_S1x4 ⟨rfl, fun a => by
    match a with
    | ⟨0, _⟩ => show p.val + 1 ≤ 1000; omega
    | ⟨1, _⟩ => show 0 + 4 ≤ 4; omega⟩ (fun a => by
    match a with
    | ⟨0, _⟩ => exact toInt_wrap_ofNat p.val (by omega)
    | ⟨1, _⟩ => exact toInt_wrap_ofNat (s := S_) (i := Shape.Idx.first h_S_) (d := constantI S_ 32 4#32) 0 (by omega))]
  pointwise

/-- The area the chosen box shares with each. -/
theorem inter_at (j : Fin 1000) : (res_main_while0b_v206 V : FVec Ideal S1000 .f32) (ix1 j)
    = shared (side V 0) (side V 1) (side V 2) (side V 3) (pick (now V)) j := by
  unfold res_main_while0b_v206 res_main_while0b_v201
  pointwise
  rw [chosen_box, chosen_box, chosen_box, chosen_box]
  rfl

/-- A number at the place chosen, the rest as they were. -/
theorem put_at (x : FVec Ideal S1000 .f32) (u : FVec Ideal S_ .f32) (p : Fin 1000) (w : IVec S_ 32) (hw : w = constantI S_ 32 (BitVec.ofNat 32 p.val)) (j : Fin 1000) :
    Host.scatter scatter_S1000_S1_S__n_0_0_0 (fun _ b => b) x (broadcastInDim S1 ![] bcast_S_S1
      (select (cmpi .slt w (constantI S_ 32 0#32)) (addi w (constantI S_ 32 1000#32)) w)) u (ix1 j) = if j = p then u ix0 else x (ix1 j) := by
  subst hw
  exact scatter_at scatter_S1000_S1_S__n_0_0_0 rfl rfl _ _ _ p (toInt_wrap_ofNat (s := S_) (i := ix0) (d := constantI S_ 32 1000#32) _ (by omega)) j

/-- The scores with those of the boxes that overlap the chosen one too much out of play. -/
def thinned : FVec Ideal S1000 .f32 :=
  select (cmpf .ogt (Host.divf (res_main_while0b_v206 V) (addf (subf (addf (broadcastInDim S1000 ![] bcast_S_S1000 (mulf (subf (shapeCast S_ (extractStridedSlice S1 ![2] (res_main_while0b_v166 V) slices_S4_S1_2) shapeCasts_S1_S_) (shapeCast S_ (extractStridedSlice S1 ![0] (res_main_while0b_v166 V) slices_S4_S1_0) shapeCasts_S1_S_)) (subf (shapeCast S_ (extractStridedSlice S1 ![3] (res_main_while0b_v166 V) slices_S4_S1_3) shapeCasts_S1_S_) (shapeCast S_ (extractStridedSlice S1 ![1] (res_main_while0b_v166 V) slices_S4_S1_1) shapeCasts_S1_S_)))) (mulf (subf (shapeCast S1000 (extractStridedSlice S1000x1 ![0, 2] (V main_v112_0) slices_S1000x4_S1000x1_0_2) shapeCasts_S1000x1_S1000) (shapeCast S1000 (extractStridedSlice S1000x1 ![0, 0] (V main_v112_0) slices_S1000x4_S1000x1_0_0) shapeCasts_S1000x1_S1000)) (subf (shapeCast S1000 (extractStridedSlice S1000x1 ![0, 3] (V main_v112_0) slices_S1000x4_S1000x1_0_3) shapeCasts_S1000x1_S1000) (shapeCast S1000 (extractStridedSlice S1000x1 ![0, 1] (V main_v112_0) slices_S1000x4_S1000x1_0_1) shapeCasts_S1000x1_S1000)))) (res_main_while0b_v206 V)) (broadcastInDim S1000 ![] bcast_S_S1000 (constant S_ .f32 0x2B8CBCCC#32)))) (broadcastInDim S1000 ![] bcast_S_S1000 (constant S_ .f32 0x3F000000#32))) (broadcastInDim S1000 ![] bcast_S_S1000 (id (constant S_ .f32 0xCE6E6B28#32))) (V main_v112_3)

/-- The next scores are those, with the chosen box's too. -/
theorem step_scores : (step_main_v112_3 V : FVec Ideal S1000 .f32) = Host.scatter scatter_S1000_S1_S__n_0_0_0 (fun _ b => b) (thinned V)
    (broadcastInDim S1 ![] bcast_S_S1 (select (cmpi .slt (res_main_while0b_v145 V) (constantI S_ 32 0#32)) (addi (res_main_while0b_v145 V) (constantI S_ 32 1000#32))
      (res_main_while0b_v145 V))) (constant S_ .f32 0xCE6E6B28#32) := by
  unfold step_main_v112_3 thinned
  dsimp only [id]
  congr 1

/-- The scores after a step, before its own box is taken out. -/
theorem thinned_at (j : Fin 1000) : thinned V (ix1 j)
    = if tooMuch < overlap (side V 0) (side V 1) (side V 2) (side V 3) (pick (now V)) j then out else now V j := by
  unfold thinned
  pointwise
  rw [inter_at, chosen_box, chosen_box, chosen_box, chosen_box]
  generalize pick (now V) = p
  rfl

/-- The scores after a trip. -/
theorem next_at (j : Fin 1000) : (step_main_v112_3 V : FVec Ideal S1000 .f32) (ix1 j)
    = next (side V 0) (side V 1) (side V 2) (side V 3) (now V) j := by
  rw [step_scores, put_at _ _ (pick (now V)) _ (chosen_word V) j, thinned_at]
  rfl

/-- The places kept after trip `n`: it writes the chosen one, or -1 if its score is out of play. -/
theorem kept_at (n : Fin 300) (hn : (V main_v112_2 : IVec S_ 32) = constantI S_ 32 (BitVec.ofNat 32 n.val)) (i : Fin 300) :
    (step_main_v112_4 V : IVec S300 32) (ix1 i) = if i = n then (if halfOut < now V (pick (now V)) then BitVec.ofNat 32 (pick (now V)).val else 4294967295#32)
      else (V main_v112_4 : IVec S300 32) (ix1 i) := by
  unfold step_main_v112_4
  refine (scatter_at scatter_S300_S1_S__n_0_0_0 rfl rfl _ _ _ n ?_ i).trans ?_
  · rw [hn]
    exact toInt_wrap_ofNat (s := S_) (i := ix0) (d := constantI S_ 32 300#32) _ (by omega)
  · refine if_congr Iff.rfl ?_ rfl
    rw [show ∀ (b : IVec S_ 1) (x y : IVec S_ 32), select b x y ix0 = Scalar.select (b ix0) (x ix0) (y ix0) from fun _ _ _ => rfl]
    rw [show ∀ (x y : FVec Ideal S_ .f32), cmpf .ogt x y ix0 = BitVec.ofBool (decide (y ix0 < x ix0)) from fun _ _ => rfl]
    rw [chosen_score, chosen_word]
    show Scalar.select (BitVec.ofBool (decide (halfOut < now V (pick (now V))))) (BitVec.ofNat 32 (pick (now V)).val) 4294967295#32 = _
    by_cases h : halfOut < now V (pick (now V))
    · rw [if_pos h, decide_eq_true h]; rfl
    · rw [if_neg h, decide_eq_false h]; rfl

end Cert.Proof.Reference

end
-- ==== Proof.ReferenceLoop.lean ====
/-
  Hand-written, untrusted. The reference's loop, on the extended reals: after `k` trips the scores are those of `k` rounds of
  suppression, and the places kept so far are recorded in order.
-/
module

public import proofs.«01_k».proof.Proof.ReferenceStep

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

variable (E : Valuation τ sig (Elt Ideal))

/-- The scores before round `k`, from the boxes and the scores found at the loop's entry. -/
abbrev roundScores (k : ℕ) : Fin 1000 → EReal := scores (side E 0) (side E 1) (side E 2) (side E 3) (now E) k

/-- What round `k` records: the place it keeps, or -1. -/
def mark (k : ℕ) : BitVec 32 :=
  if halfOut < roundScores E k (pick (roundScores E k)) then BitVec.ofNat 32 (pick (roundScores E k)).val else 4294967295#32

/-- The loop's state after `k` trips. -/
structure After (k : ℕ) (V : Valuation τ sig (Elt Ideal)) : Prop where
  boxes : V main_v112_0 = E main_v112_0
  scores : now V = roundScores E k
  count : (V main_v112_2 : IVec S_ 32) = constantI S_ 32 (BitVec.ofNat 32 k)
  marks : ∀ i : Fin 300, (V main_v112_4 : IVec S300 32) (ix1 i) = if i.val < k then mark E i.val else 4294967295#32

/-- One trip takes the state after `k` rounds to the state after one more. -/
theorem After.step {k : ℕ} {V : Valuation τ sig (Elt Ideal)} (h : After E k V) (hk : k < 300) : After E (k + 1) (STEP V) where
  boxes := (STEP_main_v112_0 V).trans h.boxes
  scores := by
    have hs : ∀ a, side V a = side E a := fun a => by unfold side; rw [h.boxes]
    funext j
    unfold now
    rw [STEP_main_v112_3]
    refine (next_at V j).trans ?_
    rw [hs, hs, hs, hs, h.scores]
    rfl
  count := by
    rw [STEP_main_v112_2]
    unfold step_main_v112_2
    rw [h.count]
    funext i
    show BitVec.ofNat 32 k + 1#32 = BitVec.ofNat 32 (k + 1)
    rw [BitVec.ofNat_add]
  marks := fun i => by
    rw [STEP_main_v112_4]
    refine (kept_at V ⟨k, hk⟩ h.count i).trans ?_
    rw [h.scores, h.marks]
    by_cases hi : i = ⟨k, hk⟩
    · subst hi
      rw [if_pos rfl, if_pos (Nat.lt_succ_self k)]
      rfl
    · rw [if_neg hi]
      have hne : i.val ≠ k := fun e => hi (Fin.ext e)
      by_cases hlt : i.val < k
      · rw [if_pos hlt, if_pos (by omega)]
      · rw [if_neg hlt, if_neg (by omega)]

/-- The loop's state after `k` trips, from its state at entry. -/
theorem after_trips (h : After E 0 E) : ∀ k, k ≤ 300 → After E k (STEP^[k] E)
  | 0, _ => h
  | k + 1, hk => by
    rw [Function.iterate_succ_apply']
    exact (after_trips h k (by omega)).step E (by omega)

end Cert.Proof.Reference

end
-- ==== Proof.ReferencePrefix.lean ====
/-
  Hand-written, untrusted. What the reference's loop finds at its entry, and what the operations after it read: the thousand best
  scores, their classes, the decoded and clipped boxes, moved apart by class.
-/
module

public import proofs.«01_k».proof.Proof.ReferenceLoop
public import proofs.«01_k».proof.Proof.KernelPrefix

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- The operations before the top-k. -/
abbrev heads : List (HloOp τ sig (Elt Ideal)) := hostOps0 ++ hostOps0_1
/-- The operations that turn places into anchors and classes. -/
abbrev mids : List (HloOp τ sig (Elt Ideal)) := hostOps0_3 ++ hostOps0_4 ++ hostOps0_5
/-- The operations that decode and clip the boxes. -/
abbrev decode : List (HloOp τ sig (Elt Ideal)) := List.flatten [hostOps0_6, hostOps0_7, hostOps0_8, hostOps0_9, hostOps0_10, hostOps0_11, hostOps0_12, hostOps0_13]
/-- The operations between the packing of the boxes and the loop. -/
abbrev enter : List (HloOp τ sig (Elt Ideal)) := hostOps0_15 ++ hostOps0_16

/-- The operations before the top-k leave the masked scores. -/
theorem heads_v9 : (after heads V main_v9 : FVec Ideal S1820000 .f32) = KernelIdeal.masked (V main_arg0) := by
  after_reads_simp
  all_goals try simp -implicitDefEqProofs only [StableHlo.TRef.toBuf, StableHlo.TRef.ofBuf, cast_cast, cast_eq]
  rfl

/-- The top-k's scores. -/
theorem two_values (i : Fin 1000) : (after hostOps0_2 V main_values : FVec Ideal S1000 .f32) (ix1 i)
    = (V main_v9 : FVec Ideal S1820000 .f32) (ix1 (rank (fun k : Fin 1820000 => (V main_v9 : FVec Ideal S1820000 .f32) (ix1 k)) (i.castLE (by omega)))) := by
  refine (show (after hostOps0_2 V main_values : FVec Ideal S1000 .f32) (ix1 i)
    = (Host.topK S1000 0 (FloatOps.cmpfTotal (F := Ideal) (φ := .f32) .gt) (V main_v9 : FVec Ideal S1820000 .f32) sliceFits_S1820000_S1000).1 (ix1 i) from by
      after_reads_simp) |>.trans ?_
  exact topK_fst (n := 1820000) (k := 1000) (V main_v9) sliceFits_S1820000_S1000 (by omega) i

/-- The top-k's places. -/
theorem two_places (i : Fin 1000) : (after hostOps0_2 V main_indices : IVec S1000 32) (ix1 i)
    = BitVec.ofNat 32 (rank (fun k : Fin 1820000 => (V main_v9 : FVec Ideal S1820000 .f32) (ix1 k)) (i.castLE (by omega))).val := by
  refine (show (after hostOps0_2 V main_indices : IVec S1000 32) (ix1 i)
    = (Host.topK S1000 0 (FloatOps.cmpfTotal (F := Ideal) (φ := .f32) .gt) (V main_v9 : FVec Ideal S1820000 .f32) sliceFits_S1820000_S1000).2 (ix1 i) from by
      after_reads_simp) |>.trans ?_
  exact topK_snd (n := 1820000) (k := 1000) (V main_v9) sliceFits_S1820000_S1000 (by omega) i

/-- The number of classes. -/
theorem two_c : (after hostOps0_2 V main_c : IVec S_ 32) = constantI S_ 32 91#32 := by
  after_reads_simp

/-- A place divided by the number of classes is its anchor's number. -/
theorem mids_v10 (hc : (V main_c : IVec S_ 32) = constantI S_ 32 91#32) (i : Fin 1000) :
    (after mids V main_v10 : IVec S1000 32) (ix1 i) = anchorOf ((V main_indices : IVec S1000 32) (ix1 i)) := by
  after_reads_at
  rw [hc]
  rfl

/-- A place's remainder is its class. -/
theorem mids_v11 (i : Fin 1000) : (after mids V main_v11 : IVec S1000 32) (ix1 i) = classOf ((V main_indices : IVec S1000 32) (ix1 i)) := by
  after_reads_at
  rfl

/-- The operations before the top-k keep the second argument. -/
theorem heads_arg1 : after heads V main_arg1 = V main_arg1 := by after_reads_simp
/-- The operations before the top-k keep the third argument. -/
theorem heads_arg2 : after heads V main_arg2 = V main_arg2 := by after_reads_simp
/-- The top-k keeps the second argument. -/
theorem two_arg1 : after hostOps0_2 V main_arg1 = V main_arg1 := by after_reads_simp
/-- The top-k keeps the third argument. -/
theorem two_arg2 : after hostOps0_2 V main_arg2 = V main_arg2 := by after_reads_simp
/-- The operations on places keep the second argument. -/
theorem mids_arg1 : after mids V main_arg1 = V main_arg1 := by after_reads_simp
/-- The operations on places keep the third argument. -/
theorem mids_arg2 : after mids V main_arg2 = V main_arg2 := by after_reads_simp
/-- The operations on places keep the best scores. -/
theorem mids_values : after mids V main_values = V main_values := by after_reads_simp

/-- The rows of shifts taken for the best scores. -/
abbrev shifts (i : Fin 1000) (k : Fin 4) : EReal := KernelIdeal.taken (V main_arg1) (V main_v10) (ix2 i k)
/-- The rows of anchors taken for the best scores. -/
abbrev bases (i : Fin 1000) (k : Fin 4) : EReal := KernelIdeal.taken (V main_arg2) (V main_v10) (ix2 i k)

/-- The decoded and clipped left side. -/
theorem decode_left (j : Fin 1000) : (after decode V main_v85 : FVec Ideal S1000 .f32) (ix1 j) = left (shifts V) (bases V) j := by
  after_reads_at
  after_reads_at
  unfold left lower wide
  rw [← Ideal.ofBits_zero_f32]
  rfl
/-- The decoded and clipped top side. -/
theorem decode_top (j : Fin 1000) : (after decode V main_v88 : FVec Ideal S1000 .f32) (ix1 j) = top (shifts V) (bases V) j := by
  after_reads_at
  after_reads_at
  unfold top lower high
  rw [← Ideal.ofBits_zero_f32]
  rfl
/-- The decoded and clipped right side. -/
theorem decode_right (j : Fin 1000) : (after decode V main_v91 : FVec Ideal S1000 .f32) (ix1 j) = right (shifts V) (bases V) j := by
  after_reads_at
  after_reads_at
  unfold right upper wide
  rw [← Ideal.ofBits_zero_f32]
  rfl
/-- The decoded and clipped bottom side. -/
theorem decode_bottom (j : Fin 1000) : (after decode V main_v94 : FVec Ideal S1000 .f32) (ix1 j) = bottom (shifts V) (bases V) j := by
  after_reads_at
  after_reads_at
  unfold bottom upper high
  rw [← Ideal.ofBits_zero_f32]
  rfl
/-- The left side's column of the packed boxes. -/
theorem pack_left (j : Fin 1000) : (after hostOps0_14 V main_v99 : FVec Ideal S1000x4 .f32) (ix2 j 0) = (V main_v85 : FVec Ideal S1000 .f32) (ix1 j) := by
  after_reads_at
  after_reads_at
/-- The top side's column of the packed boxes. -/
theorem pack_top (j : Fin 1000) : (after hostOps0_14 V main_v99 : FVec Ideal S1000x4 .f32) (ix2 j 1) = (V main_v88 : FVec Ideal S1000 .f32) (ix1 j) := by
  after_reads_at
  after_reads_at
/-- The right side's column of the packed boxes. -/
theorem pack_right (j : Fin 1000) : (after hostOps0_14 V main_v99 : FVec Ideal S1000x4 .f32) (ix2 j 2) = (V main_v91 : FVec Ideal S1000 .f32) (ix1 j) := by
  after_reads_at
  after_reads_at
/-- The bottom side's column of the packed boxes. -/
theorem pack_bottom (j : Fin 1000) : (after hostOps0_14 V main_v99 : FVec Ideal S1000x4 .f32) (ix2 j 3) = (V main_v94 : FVec Ideal S1000 .f32) (ix1 j) := by
  after_reads_at
  after_reads_at

/-- A matrix's greatest entry. -/
theorem greatest_entry (x : FVec Ideal S1000x4 .f32) : (Host.reduce FloatOps.maximumf x (constant S_ .f32 0xFF800000#32) reducesTo_S1000x4_S_d0_1 h_S_ : FVec Ideal S_ .f32) ix0
    = Finset.fold max (Ideal.ofBits .f32 0xFF800000#32) (fun p : Fin 1000 × Fin 4 => x (ix2 p.1 p.2)) Finset.univ := by
  pointwise

/-- The boxes, one row each. -/
abbrev packed : FVec Ideal S1000x4 .f32 := after hostOps0_14 V main_v99
/-- The greatest coordinate. -/
abbrev topmost : FVec Ideal S_ .f32 := after hostOps0_14 V main_v101
/-- The boxes moved apart by class. -/
abbrev moved : FVec Ideal S1000x4 .f32 := after hostOps0_14 V main_v107
/-- The classes. -/
abbrev lab : IVec S1000 32 := V main_v11
/-- The scores. -/
abbrev vals : FVec Ideal S1000 .f32 := V main_values
/-- Which scores are above the threshold. -/
abbrev isHigh : IVec S1000 1 := after hostOps0_14 V main_v109
/-- The score of a box that is gone. -/
abbrev outAt : FVec Ideal S_ .f32 := after hostOps0_14 V main_cst_27

/-- The greatest coordinate is the maximum over all boxes. -/
theorem pack_greatest : topmost V = Host.reduce FloatOps.maximumf (packed V) (constant S_ .f32 0xFF800000#32) reducesTo_S1000x4_S_d0_1 h_S_ := by
  after_reads_simp

/-- The moved boxes are the boxes plus their class offsets. -/
theorem pack_moved : moved V = addf (packed V) (broadcastInDim S1000x4 ![0, 1] bcast_S1000x1_S1000x4_0_1 (broadcastInDim S1000x1 ![0] bcast_S1000_S1000x1_0
      (mulf (sitofp .f32 (lab V)) (broadcastInDim S1000 ![] bcast_S_S1000 (addf (topmost V) (constant S_ .f32 0x3F800000#32)))))) := by
  after_reads_simp

/-- A moved box, at one side. -/
theorem pack_box (j : Fin 1000) (k : Fin 4) : moved V (ix2 j k) = packed V (ix2 j k) + FloatOps.sitofp (F := Ideal) .f32 (lab V (ix1 j)) * (topmost V ix0 + (1 : EReal)) := by
  rw [pack_moved]
  pointwise

/-- A score is compared with the threshold. -/
theorem pack_high : isHigh V = cmpf .ogt (vals V) (broadcastInDim S1000 ![] bcast_S_S1000 (constant S_ .f32 0x3D4CCCCD#32)) := by
  after_reads_simp
/-- The score of a box that is gone is the constant written there. -/
theorem pack_out : outAt V = constant S_ .f32 0xCE6E6B28#32 := by
  after_reads_simp
/-- Packing keeps the scores. -/
theorem pack_values : (after hostOps0_14 V main_values : FVec Ideal S1000 .f32) = V main_values := by
  after_reads_simp

/-- The loop's boxes are the moved boxes. -/
theorem enter_box : (after enter V main_v112_0 : FVec Ideal S1000x4 .f32) = V main_v107 := by
  after_reads_simp
  rfl
/-- The loop's scores are those above the threshold, the others gone. -/
theorem enter_score (j : Fin 1000) : (after enter V main_v112_3 : FVec Ideal S1000 .f32) (ix1 j)
    = Scalar.select ((V main_v109 : IVec S1000 1) (ix1 j)) ((V main_values : FVec Ideal S1000 .f32) (ix1 j)) ((V main_cst_27 : FVec Ideal S_ .f32) ix0) := by
  after_reads_at
  dsimp only [id]
  pointwise
/-- The record enters the loop empty. -/
theorem enter_mark (i : Fin 300) : (after enter V main_v112_4 : IVec S300 32) (ix1 i) = 4294967295#32 := by
  after_reads_at
  rfl
/-- The loop's counter starts at zero. -/
theorem enter_count : (after enter V main_v112_2 : IVec S_ 32) = constantI S_ 32 0#32 := by
  after_reads_simp
  rfl

end Cert.Proof.Reference

end
-- ==== Proof.ReferenceEntry.lean ====
/-
  Hand-written, untrusted. The reference at its loop's entry, from the arguments alone.
-/
module

public import proofs.«01_k».proof.Proof.ReferencePrefix

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- The contents after each stretch of operations before the loop. -/
def chosenAt : Valuation τ sig (Elt Ideal) := after mids (after hostOps0_2 (after heads V))
/-- The buffers once the boxes are decoded. -/
def decodedAt : Valuation τ sig (Elt Ideal) := after decode (chosenAt V)
/-- The buffers once the boxes are packed. -/
def packedAt : Valuation τ sig (Elt Ideal) := after hostOps0_14 (decodedAt V)
/-- The buffers where the loop is entered. -/
def entryAt : Valuation τ sig (Elt Ideal) := after enter (packedAt V)

/-- The thousand best scores, their classes, their shifts and their anchors. -/
abbrev S : Fin 1000 → EReal := KernelIdeal.best (V main_arg0)
/-- The classes of the thousand best. -/
abbrev L : Fin 1000 → BitVec 32 := KernelIdeal.cls (V main_arg0)
/-- The shifts of the thousand best. -/
abbrev D : Fin 1000 → Fin 4 → EReal := KernelIdeal.quad (V main_arg0) (V main_arg1)
/-- The anchors of the thousand best. -/
abbrev A : Fin 1000 → Fin 4 → EReal := KernelIdeal.quad (V main_arg0) (V main_arg2)

/-- Decoding keeps the classes. -/
theorem decode_lab : after decode V main_v11 = V main_v11 := by after_reads_simp
/-- Decoding keeps the scores. -/
theorem decode_values : after decode V main_values = V main_values := by after_reads_simp
/-- Packing keeps the classes. -/
theorem pack_lab : after hostOps0_14 V main_v11 = V main_v11 := by after_reads_simp
/-- Entering the loop keeps the classes. -/
theorem enter_lab : after enter V main_v11 = V main_v11 := by after_reads_simp
/-- Entering the loop keeps the scores. -/
theorem enter_values : after enter V main_values = V main_values := by after_reads_simp
/-- Entering the loop keeps the boxes. -/
theorem enter_packed : after enter V main_v99 = V main_v99 := by after_reads_simp

/-- The scores are the best scores. -/
theorem chosen_values (i : Fin 1000) : vals (chosenAt V) (ix1 i) = S V i := by
  show (after mids (after hostOps0_2 (after heads V)) main_values : FVec Ideal S1000 .f32) (ix1 i) = _
  rw [mids_values]
  refine (two_values _ i).trans ?_
  rw [heads_v9]
  rfl

/-- The places the top-k leaves. -/
theorem places_at (i : Fin 1000) : (after hostOps0_2 (after heads V) main_indices : IVec S1000 32) (ix1 i) = BitVec.ofNat 32 (KernelIdeal.place (V main_arg0) i).val := by
  refine (two_places _ i).trans ?_
  rw [heads_v9]
  rfl

/-- The classes are the best scores' classes. -/
theorem chosen_lab (i : Fin 1000) : lab (chosenAt V) (ix1 i) = L V i := by
  refine (mids_v11 _ i).trans ?_
  rw [places_at]
  rfl

/-- The anchors the best scores belong to. -/
theorem anchors_eq : (chosenAt V main_v10 : IVec S1000 32) = KernelIdeal.anchors (V main_arg0) := by
  refine funext fun (i : S1000.Idx) => ?_
  obtain ⟨q, rfl⟩ : ∃ q : Fin 1000, i = ix1 q := ⟨i 0, by funext k; match k with | ⟨0, _⟩ => rfl⟩
  exact (mids_v10 _ (two_c _) q).trans (congrArg anchorOf (places_at V q))

/-- The shifts taken are the best scores' shifts. -/
theorem shifts_eq : shifts (chosenAt V) = D V := by
  funext i k
  unfold shifts D KernelIdeal.quad
  rw [anchors_eq]
  show KernelIdeal.taken (after mids (after hostOps0_2 (after heads V)) main_arg1) _ _ = _
  rw [mids_arg1, two_arg1, heads_arg1]

/-- The anchors taken are the best scores' anchors. -/
theorem bases_eq : bases (chosenAt V) = A V := by
  funext i k
  unfold bases A KernelIdeal.quad
  rw [anchors_eq]
  show KernelIdeal.taken (after mids (after hostOps0_2 (after heads V)) main_arg2) _ _ = _
  rw [mids_arg2, two_arg2, heads_arg2]

/-- The left side's column of the boxes. -/
theorem packed_left (j : Fin 1000) : packed (decodedAt V) (ix2 j 0) = left (D V) (A V) j := by
  rw [← shifts_eq, ← bases_eq]; exact (pack_left _ j).trans (decode_left _ j)
/-- The top side's column of the boxes. -/
theorem packed_top (j : Fin 1000) : packed (decodedAt V) (ix2 j 1) = top (D V) (A V) j := by
  rw [← shifts_eq, ← bases_eq]; exact (pack_top _ j).trans (decode_top _ j)
/-- The right side's column of the boxes. -/
theorem packed_right (j : Fin 1000) : packed (decodedAt V) (ix2 j 2) = right (D V) (A V) j := by
  rw [← shifts_eq, ← bases_eq]; exact (pack_right _ j).trans (decode_right _ j)
/-- The bottom side's column of the boxes. -/
theorem packed_bottom (j : Fin 1000) : packed (decodedAt V) (ix2 j 3) = bottom (D V) (A V) j := by
  rw [← shifts_eq, ← bases_eq]; exact (pack_bottom _ j).trans (decode_bottom _ j)

/-- The greatest coordinate. -/
def G : EReal := topmost (decodedAt V) ix0

/-- The greatest coordinate as a maximum over boxes and sides. -/
theorem G_eq : G V = Finset.fold max (Ideal.ofBits .f32 0xFF800000#32) (fun p : Fin 1000 × Fin 4 => packed (decodedAt V) (ix2 p.1 p.2)) Finset.univ := by
  unfold G
  rw [pack_greatest]
  exact greatest_entry _

/-- No coordinate exceeds the greatest. -/
theorem packed_le (j : Fin 1000) (k : Fin 4) : packed (decodedAt V) (ix2 j k) ≤ G V := by
  rw [G_eq, Finset.le_fold_max]
  exact Or.inr ⟨(j, k), Finset.mem_univ _, le_rfl⟩

/-- The reference's maximum is the greatest coordinate. -/
theorem G_greatest : Greatest (D V) (A V) (G V) where
  left_le j := packed_left V j ▸ packed_le V j 0
  top_le j := packed_top V j ▸ packed_le V j 1
  right_le j := packed_right V j ▸ packed_le V j 2
  bottom_le j := packed_bottom V j ▸ packed_le V j 3
  least h h1 h2 h3 h4 := by
    rw [G_eq, Finset.fold_max_le]
    refine ⟨?_, fun x _ => ?_⟩
    · rw [show Ideal.ofBits .f32 0xFF800000#32 = ⊥ from by simp [Ideal.ofBits, Ideal.ieee]]; exact bot_le
    · obtain ⟨j, k⟩ := x
      match k with
      | ⟨0, _⟩ => exact (packed_left V j).le.trans (h1 j)
      | ⟨1, _⟩ => exact (packed_top V j).le.trans (h2 j)
      | ⟨2, _⟩ => exact (packed_right V j).le.trans (h3 j)
      | ⟨3, _⟩ => exact (packed_bottom V j).le.trans (h4 j)

/-- The classes, once decoded. -/
theorem lab_eq (j : Fin 1000) : lab (decodedAt V) (ix1 j) = L V j := by
  rw [← chosen_lab]
  exact congrArg (fun u : IVec S1000 32 => u (ix1 j)) (decode_lab (chosenAt V))

/-- The scores, once decoded. -/
theorem vals_eq (j : Fin 1000) : vals (decodedAt V) (ix1 j) = S V j := by
  rw [← chosen_values]
  exact congrArg (fun u : FVec Ideal S1000 .f32 => u (ix1 j)) (decode_values (chosenAt V))

/-- A side of a moved box where the loop is entered. -/
theorem side_eq (k : Fin 4) (j : Fin 1000) : side (entryAt V) k j = packed (decodedAt V) (ix2 j k) + offset (L V) (G V) j := by
  refine (congrArg (fun u : FVec Ideal S1000x4 .f32 => u (ix2 j k)) (enter_box (packedAt V))).trans ?_
  refine (pack_box _ j k).trans ?_
  rw [lab_eq]
  rfl

/-- The scores where the loop is entered. -/
theorem now_eq : now (entryAt V) = entering (S V) := by
  funext j
  refine (enter_score (packedAt V) j).trans ?_
  show Scalar.select (isHigh (decodedAt V) (ix1 j)) ((after hostOps0_14 (decodedAt V) main_values : FVec Ideal S1000 .f32) (ix1 j)) (outAt (decodedAt V) ix0) = _
  rw [pack_high, pack_out, pack_values]
  unfold entering
  rw [← vals_eq]
  pointwise
  rfl

/-- The loop's entry. -/
theorem entry_after : After (entryAt V) 0 (entryAt V) where
  boxes := rfl
  scores := rfl
  count := enter_count _
  marks i := by rw [if_neg (Nat.not_lt_zero _)]; exact enter_mark _ i

/-- The rounds of the loop are those of the thousand boxes. -/
theorem rounds_eq (k : ℕ) : roundScores (entryAt V) k
    = scored (left (D V) (A V)) (top (D V) (A V)) (right (D V) (A V)) (bottom (D V) (A V)) (offset (L V) (G V)) (entering (S V)) k := by
  have h0 : side (entryAt V) 0 = fun j => left (D V) (A V) j + offset (L V) (G V) j := funext fun j => by rw [side_eq, packed_left]
  have h1 : side (entryAt V) 1 = fun j => top (D V) (A V) j + offset (L V) (G V) j := funext fun j => by rw [side_eq, packed_top]
  have h2 : side (entryAt V) 2 = fun j => right (D V) (A V) j + offset (L V) (G V) j := funext fun j => by rw [side_eq, packed_right]
  have h3 : side (entryAt V) 3 = fun j => bottom (D V) (A V) j + offset (L V) (G V) j := funext fun j => by rw [side_eq, packed_bottom]
  unfold roundScores
  rw [h0, h1, h2, h3, now_eq]

/-- What round `k` records. -/
theorem mark_eq (k : ℕ) : mark (entryAt V) k
    = row (alive (left (D V) (A V)) (top (D V) (A V)) (right (D V) (A V)) (bottom (D V) (A V)) (offset (L V) (G V)) (entering (S V)) k)
      (BitVec.ofNat 32 (chosen (left (D V) (A V)) (top (D V) (A V)) (right (D V) (A V)) (bottom (D V) (A V)) (offset (L V) (G V)) (entering (S V)) k).val)
      4294967295#32 := by
  unfold mark
  rw [rounds_eq]
  exact row_eq _ _ _

/-- The classes where the loop is entered. -/
theorem entry_lab (j : Fin 1000) : (entryAt V main_v11 : IVec S1000 32) (ix1 j) = L V j := by
  rw [← lab_eq]
  exact congrArg (fun u : IVec S1000 32 => u (ix1 j)) ((enter_lab (packedAt V)).trans (pack_lab (decodedAt V)))
/-- The best scores where the loop is entered. -/
theorem entry_values (j : Fin 1000) : (entryAt V main_values : FVec Ideal S1000 .f32) (ix1 j) = S V j := by
  rw [← vals_eq]
  exact congrArg (fun u : FVec Ideal S1000 .f32 => u (ix1 j)) ((enter_values (packedAt V)).trans (pack_values (decodedAt V)))
/-- The boxes where the loop is entered. -/
theorem entry_packed : (entryAt V main_v99 : FVec Ideal S1000x4 .f32) = packed (decodedAt V) := enter_packed _

end Cert.Proof.Reference

end
-- ==== Proof.ReferenceResult.lean ====
/-
  Hand-written, untrusted. The reference's three results, from the arguments alone.
-/
module

public import proofs.«01_k».proof.Proof.ReferenceEntry
public import Idealize.ShloMosaic.Lib.Routing.Ops

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- The operations after the loop. -/
abbrev post : List (HloOp τ sig (Elt Ideal)) := hostOps0_17 ++ hostOps0_18

/-- The places a record's rows are taken at. -/
def placesOf (w : IVec S300 32) : IVec S300x1 32 :=
  let z := broadcastInDim S300 ![] bcast_S_S300 (constantI S_ 32 0#32)
  let u := maxsi w z
  broadcastInDim S300x1 ![0] bcast_S300_S300x1_0 (select (cmpi .slt u z) (addi u (broadcastInDim S300 ![] bcast_S_S300 (constantI S_ 32 1000#32))) u)

/-- A recorded place is not negative, so it is taken as it is. -/
theorem placesOf_at (w : IVec S300 32) (i : Fin 300) (q : Fin 1000) (h : w (ix1 i) = BitVec.ofNat 32 q.val) :
    placesOf w (ix2 i (0 : Fin 1)) = BitVec.ofNat 32 q.val := by
  unfold placesOf
  pointwise
  rw [h]
  have hm : IntOp.maxsi (BitVec.ofNat 32 q.val) 0#32 = BitVec.ofNat 32 q.val := by
    unfold IntOp.maxsi
    split
    · rfl
    · rename_i h0
      have hz : (0#32 : BitVec 32).toInt = 0 := rfl
      have hk : (BitVec.ofNat 32 q.val).toInt = q.val := StableHlo.Predicate.toInt_ofNat_small _ (by omega)
      rw [BitVec.slt_iff_toInt_lt, hz, hk] at h0
      have hq : q.val = 0 := by omega
      rw [hq]
  rw [hm]
  word_omega

/-- The record of places. -/
abbrev rec : IVec S300 32 := V main_v112_4
/-- The boxes. -/
abbrev boxes : FVec Ideal S1000x4 .f32 := V main_v99
/-- The boxes returned. -/
abbrev boxOut : FVec Ideal S300x4 .f32 := after post V main_v127
/-- The scores returned. -/
abbrev scoreOut : FVec Ideal S300 .f32 := after post V main_v135
/-- The classes returned. -/
abbrev labOut : IVec S300 32 := after post V main_v143

/-- The returned boxes, as a gather times the record's mask. -/
theorem post_box (i : Fin 300) (k : Fin 4) : boxOut V (ix2 i k) = Host.gather gather_S1000x4_S300x1_S300x4_1_0_n_n_0_1_14 (boxes V) (placesOf (rec V)) (ix2 i k)
    * FloatOps.uitofp (F := Ideal) FTy.f32 (IntOp.cmpi CmpIPredicate.sge (rec V (ix1 i)) 0#32) := by
  after_reads_at
  rfl
/-- The returned scores, as a gather times the record's mask. -/
theorem post_score (i : Fin 300) : scoreOut V (ix1 i) = Host.gather gather_S1000_S300x1_S300_n_0_n_n_0_1_1 (vals V) (placesOf (rec V)) (ix1 i)
    * FloatOps.uitofp (F := Ideal) FTy.f32 (IntOp.cmpi CmpIPredicate.sge (rec V (ix1 i)) 0#32) := by
  after_reads_at
  rfl
/-- The returned classes, as a gather chosen by the record's mask. -/
theorem post_lab (i : Fin 300) : labOut V (ix1 i) = Scalar.select (IntOp.cmpi CmpIPredicate.sge (rec V (ix1 i)) 0#32)
    (Host.gather gather_S1000_S300x1_S300_n_0_n_n_0_1_1 (lab V) (placesOf (rec V)) (ix1 i)) 4294967295#32 := by
  after_reads_at
  rfl

section

variable (i : Fin 300) (p : Prop) (q : Fin 1000) (h : rec V (ix1 i) = row p (BitVec.ofNat 32 q.val) 4294967295#32)

/-- Times a mask of one. -/
theorem one_of (x : EReal) : x * FloatOps.uitofp (F := Ideal) FTy.f32 (1#1 : BitVec 1) = x := by
  show x * (((1#1 : BitVec 1).toNat : ℝ) : EReal) = x
  simp

/-- Times a mask of zero. -/
theorem zero_of (x : EReal) : x * FloatOps.uitofp (F := Ideal) FTy.f32 (0#1 : BitVec 1) = 0 := by
  show x * (((0#1 : BitVec 1).toNat : ℝ) : EReal) = 0
  simp

/-- A place is not negative. -/
theorem kept_sign (q : Fin 1000) : IntOp.cmpi CmpIPredicate.sge (BitVec.ofNat 32 q.val) 0#32 = 1#1 := by word_omega

include h

/-- A returned box is the recorded box, or zeros. -/
theorem box_row (k : Fin 4) : boxOut V (ix2 i k) = row p (boxes V (ix2 q k)) 0 := by
  rw [post_box]
  by_cases hp : p
  · rw [row, if_pos hp] at h
    rw [row, if_pos hp, h, kept_sign, one_of]
    exact Routing.gather_row gather_S1000x4_S300x1_S300x4_1_0_n_n_0_1_14 rfl rfl rfl rfl rfl _ _ i k q (placesOf_at _ i q h) (by norm_num)
  · rw [row, if_neg hp] at h
    rw [row, if_neg hp, h]
    exact zero_of _

/-- A returned score is the recorded box's, or zero. -/
theorem score_row : scoreOut V (ix1 i) = row p (vals V (ix1 q)) 0 := by
  rw [post_score]
  by_cases hp : p
  · rw [row, if_pos hp] at h
    rw [row, if_pos hp, h, kept_sign, one_of]
    exact Routing.gather_take1 gather_S1000_S300x1_S300_n_0_n_n_0_1_1 rfl rfl rfl rfl _ _ i q (placesOf_at _ i q h) (by norm_num)
  · rw [row, if_neg hp] at h
    rw [row, if_neg hp, h]
    exact zero_of _

/-- A returned class is the recorded box's, or minus one. -/
theorem lab_row : labOut V (ix1 i) = row p (lab V (ix1 q)) 4294967295#32 := by
  rw [post_lab]
  by_cases hp : p
  · rw [row, if_pos hp] at h
    rw [row, if_pos hp, h, kept_sign]
    exact Routing.gather_take1 gather_S1000_S300x1_S300_n_0_n_n_0_1_1 rfl rfl rfl rfl _ _ i q (placesOf_at _ i q h) (by norm_num)
  · rw [row, if_neg hp] at h
    rw [row, if_neg hp, h]
    rfl

end

end Cert.Proof.Reference

end
-- ==== Proof.ReferenceFinal.lean ====
/-
  Hand-written, untrusted. The reference's results at the end of its run, from the arguments at its start.
-/
module

public import proofs.«01_k».proof.Proof.ReferenceResult
public import proofs.«01_k».proof.Proof.ReferenceFrame

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo

variable (m : (ℓ : Loc nD τ sig) → Buf (Elt Ideal) ℓ) (c : Dev nD)

/-- The buffers of a core at the start. -/
abbrev start : Valuation τ sig (Elt Ideal) := fun b => m (c, b)

/-- The buffers where the loop is entered. -/
theorem entry_eq : entryContents preI m c = entryAt (start m c) := by
  simp only [entryContents, afterL_cons, afterL_nil, entryAt, packedAt, decodedAt, chosenAt, enter, decode, mids, heads, StableHlo.after_append,
    List.flatten_cons, List.flatten_nil, List.append_nil]

/-- The buffers once the loop's condition has failed. -/
def afterLoop : Valuation τ sig (Elt Ideal) := after condOps (atK m 300 c)

/-- The contents at the end are what the operations after the loop compute. -/
theorem final_post : finalContents condOps preI bodyI postI 300 m c = after post (afterLoop m c) := by
  rw [final_eq, post, StableHlo.after_append]; rfl

/-- A buffer the loop does not write holds after it what it held where the loop was entered. -/
theorem afterLoop_keep (r : Ref sig .tc) (h : r ∉ loopW) : afterLoop m c (Proc.devRef .tc r) = entryAt (start m c) (Proc.devRef .tc r) := by
  have hc : r ∉ condOps_W := fun hr => h (by simp only [loopW, List.mem_append]; tauto)
  rw [afterLoop, after_of_writes_sub _ _ condOps_writes hc, atK_keep m c r h 300, entry_eq]

/-- What the loop recorded. -/
theorem afterLoop_rec (i : Fin 300) : rec (afterLoop m c) (ix1 i) = mark (entryAt (start m c)) i.val := by
  have h1 : afterLoop m c main_v112_4 = (STEP^[300] (entryAt (start m c))) main_v112_4 := by
    rw [← entry_eq]
    exact (cond_keeps (atK m 300 c) _ (by decide)).trans (atK_agree m c 300 _ (by decide))
  refine (congrArg (fun u : IVec S300 32 => u (ix1 i)) h1).trans ?_
  rw [(after_trips _ (entry_after (start m c)) 300 le_rfl).marks i, if_pos i.isLt]

/-- Some box is still in round `k`. -/
abbrev stays (V : Valuation τ sig (Elt Ideal)) (k : ℕ) : Prop :=
  alive (left (D V) (A V)) (top (D V) (A V)) (right (D V) (A V)) (bottom (D V) (A V)) (offset (L V) (G V)) (entering (S V)) k
/-- The box round `k` takes. -/
abbrev taken (V : Valuation τ sig (Elt Ideal)) (k : ℕ) : Fin 1000 :=
  chosen (left (D V) (A V)) (top (D V) (A V)) (right (D V) (A V)) (bottom (D V) (A V)) (offset (L V) (G V)) (entering (S V)) k

/-- The record after the loop, round by round. -/
theorem afterLoop_row (i : Fin 300) : rec (afterLoop m c) (ix1 i)
    = row (stays (start m c) i.val) (BitVec.ofNat 32 (taken (start m c) i.val).val) 4294967295#32 := (afterLoop_rec m c i).trans (mark_eq _ _)

/-- The boxes at the end: side `k` of the box round `i` takes. -/
theorem final_box (i : Fin 300) (k : Fin 4) : boxOut (afterLoop m c) (ix2 i k)
    = row (stays (start m c) i.val) (packed (decodedAt (start m c)) (ix2 (taken (start m c) i.val) k)) 0 := by
  refine (box_row (afterLoop m c) i _ _ (afterLoop_row m c i) k).trans ?_
  refine congrArg (fun u : FVec Ideal S1000x4 .f32 => row _ (u _) 0) ?_
  exact (afterLoop_keep m c main_v99 (by decide +kernel)).trans (entry_packed _)

/-- The scores at the end. -/
theorem final_score (i : Fin 300) : scoreOut (afterLoop m c) (ix1 i)
    = row (stays (start m c) i.val) (S (start m c) (taken (start m c) i.val)) 0 := by
  have e : vals (afterLoop m c) (ix1 (taken (start m c) i.val)) = S (start m c) (taken (start m c) i.val) :=
    (congrArg (fun u : FVec Ideal S1000 .f32 => u (ix1 (taken (start m c) i.val))) (afterLoop_keep m c main_values (by decide +kernel))).trans (entry_values _ _)
  rw [← e]
  exact score_row (afterLoop m c) i _ _ (afterLoop_row m c i)

/-- The classes at the end. -/
theorem final_lab (i : Fin 300) : labOut (afterLoop m c) (ix1 i)
    = row (stays (start m c) i.val) (L (start m c) (taken (start m c) i.val)) 4294967295#32 := by
  refine (lab_row (afterLoop m c) i _ _ (afterLoop_row m c i)).trans ?_
  refine congrArg (fun u => row _ u 4294967295#32) ?_
  exact (congrArg (fun u : IVec S1000 32 => u (ix1 (taken (start m c) i.val))) (afterLoop_keep m c main_v11 (by decide +kernel))).trans (entry_lab _ _)

end Cert.Proof.Reference

end
-- ==== Proof.Algebraic.lean ====
/-
  Hand-written, untrusted. The kernel and the reference, run from the same arguments, end with the same three results.
-/
module

public import proofs.«01_k».proof.Defs
public import proofs.«01_k».proof.Proof.KernelTail
public import proofs.«01_k».proof.Proof.ReferenceFinal

@[expose] public section

set_option maxRecDepth 16384

noncomputable section

namespace Cert.Proof

open Idealize.ShloMosaic Idealize.ShloMosaic.TcCoe Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same arguments on core `c`. -/
abbrev SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- The buffers each program starts from. -/
abbrev Vk := KernelIdeal.start m c
@[inherit_doc Vk] abbrev Vr := Reference.start m' c

/-- The largest coordinate of the reference's boxes. -/
abbrev Gr : EReal := Reference.G (Vr m' c)

section
variable {m m' c} (h : SameArgs m m' c)
include h

/-- The best scores are the same. -/
theorem same_scores : Reference.S (Vr m' c) = KernelIdeal.S (Vk m c) := congrArg KernelIdeal.best h.1
/-- Their classes are the same. -/
theorem same_classes : Reference.L (Vr m' c) = KernelIdeal.L (Vk m c) := congrArg KernelIdeal.cls h.1
/-- Their shifts are the same. -/
theorem same_shifts : Reference.D (Vr m' c) = KernelIdeal.D (Vk m c) := congrArg₂ KernelIdeal.quad h.1 h.2.1
/-- Their anchors are the same. -/
theorem same_anchors : Reference.A (Vr m' c) = KernelIdeal.A (Vk m c) := congrArg₂ KernelIdeal.quad h.1 h.2.2

/-- The reference's greatest coordinate is the kernel's. -/
theorem same_greatest : Greatest (KernelIdeal.D (Vk m c)) (KernelIdeal.A (Vk m c)) (Gr m' c) := by
  rw [← same_shifts h, ← same_anchors h]
  exact Reference.G_greatest _

/-- A round finds a box on one side when it does on the other. -/
theorem same_stays (k : ℕ) : Reference.stays (Vr m' c) k = KernelIdeal.stays (Vk m c) (Gr m' c) k := by
  unfold Reference.stays KernelIdeal.stays
  rw [same_scores h, same_classes h, same_shifts h, same_anchors h]

/-- A round takes the same box on both sides. -/
theorem same_takes (k : ℕ) : Reference.taken (Vr m' c) k = KernelIdeal.takes (Vk m c) (Gr m' c) k := by
  unfold Reference.taken KernelIdeal.takes
  rw [same_scores h, same_classes h, same_shifts h, same_anchors h]

/-- The returned scores are the same. -/
theorem same_score : KernelIdeal.scoreOut (KernelIdeal.afterRegion m c) = Reference.scoreOut (Reference.afterLoop m' c) := by
  refine funext fun (i : Cert.KernelIdeal.S300.Idx) => ?_
  obtain ⟨q, rfl⟩ : ∃ q : Fin 300, i = ix1 q := ⟨i 0, by funext k; match k with | ⟨0, _⟩ => rfl⟩
  refine (KernelIdeal.final_score m c (same_greatest h) q).trans (Eq.symm ((Reference.final_score m' c q).trans ?_))
  rw [same_stays h, same_takes h, same_scores h]

/-- The returned classes are the same. -/
theorem same_lab : KernelIdeal.labOut (KernelIdeal.afterRegion m c) = Reference.labOut (Reference.afterLoop m' c) := by
  refine funext fun (i : Cert.KernelIdeal.S300.Idx) => ?_
  obtain ⟨q, rfl⟩ : ∃ q : Fin 300, i = ix1 q := ⟨i 0, by funext k; match k with | ⟨0, _⟩ => rfl⟩
  refine (KernelIdeal.final_lab m c (same_greatest h) q).trans (Eq.symm ((Reference.final_lab m' c q).trans ?_))
  rw [same_stays h, same_takes h, same_classes h]

/-- The returned boxes are the same. -/
theorem same_box : KernelIdeal.boxOut (KernelIdeal.afterRegion m c) = Reference.boxOut (Reference.afterLoop m' c) := by
  refine funext fun (i : Cert.KernelIdeal.S300x4.Idx) => ?_
  obtain ⟨q, k, rfl⟩ : ∃ (q : Fin 300) (k : Fin 4), i = ix2 q k :=
    ⟨i 0, i 1, by funext k; match k with | ⟨0, _⟩ => rfl | ⟨1, _⟩ => rfl⟩
  refine Eq.trans ?_ (Reference.final_box m' c q k).symm
  rw [same_stays h, same_takes h]
  match k with
  | ⟨0, _⟩ =>
    refine (KernelIdeal.final_x1 m c (same_greatest h) q).trans ?_
    exact congrArg (fun u : EReal => row _ u (0 : EReal)) ((Reference.packed_left (Vr m' c) _).trans (by rw [same_shifts h, same_anchors h])).symm
  | ⟨1, _⟩ =>
    refine (KernelIdeal.final_y1 m c (same_greatest h) q).trans ?_
    exact congrArg (fun u : EReal => row _ u (0 : EReal)) ((Reference.packed_top (Vr m' c) _).trans (by rw [same_shifts h, same_anchors h])).symm
  | ⟨2, _⟩ =>
    refine (KernelIdeal.final_x2 m c (same_greatest h) q).trans ?_
    exact congrArg (fun u : EReal => row _ u (0 : EReal)) ((Reference.packed_right (Vr m' c) _).trans (by rw [same_shifts h, same_anchors h])).symm
  | ⟨3, _⟩ =>
    refine (KernelIdeal.final_y2 m c (same_greatest h) q).trans ?_
    exact congrArg (fun u : EReal => row _ u (0 : EReal)) ((Reference.packed_bottom (Vr m' c) _).trans (by rw [same_shifts h, same_anchors h])).symm

end

open Cert.KernelIdeal Cert.KernelIdeal.Gen in
/-- The kernel's run: it ends with what its host operations after the launch compute, its arguments unchanged. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v95) = KernelIdeal.boxOut (KernelIdeal.afterRegion m c)
      ∧ r.2.mem ((c.tc : Thread nD τ).loc main_v88) = KernelIdeal.scoreOut (KernelIdeal.afterRegion m c)
      ∧ r.2.mem ((c.tc : Thread nD τ).loc main_v90) = KernelIdeal.labOut (KernelIdeal.afterRegion m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c =>
    ⟨(h.1.1.rest_eq c main_v95 (Pipeline.mem_restRefs_of main_v95 (by decide) (by decide))).trans (KernelIdeal.tail_eq m c _),
      (h.1.1.rest_eq c main_v88 (Pipeline.mem_restRefs_of main_v88 (by decide) (by decide))).trans (KernelIdeal.tail_eq m c _),
      (h.1.1.rest_eq c main_v90 (Pipeline.mem_restRefs_of main_v90 (by decide) (by decide))).trans (KernelIdeal.tail_eq m c _),
      h.2.1 c⟩)
    (θ_run_and (KernelIdeal.run_main m g) (KernelIdeal.frame m g))

open Cert.ReferenceIdeal Cert.ReferenceIdeal.Gen Cert.ReferenceIdeal.Value in
/-- The reference's run: it ends with what its operations after the loop compute, its arguments unchanged. -/
theorem reference_run (g : Dev nD → PrngReg) : θ_run (defs (F := Ideal)) (onTc (τ := τ) (main (F := Ideal))) ⟨m', fun _ => 0, g⟩ (fun r => ∀ c : Dev nD,
      r.2.mem ((c.tc : Thread nD τ).loc main_v127) = Reference.boxOut (Reference.afterLoop m' c)
      ∧ r.2.mem ((c.tc : Thread nD τ).loc main_v135) = Reference.scoreOut (Reference.afterLoop m' c)
      ∧ r.2.mem ((c.tc : Thread nD τ).loc main_v143) = Reference.labOut (Reference.afterLoop m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run _ _ _).mono (fun r h c =>
    ⟨(h c main_v127 rfl).trans (congrFun (Reference.final_post m' c) _), (h c main_v135 rfl).trans (congrFun (Reference.final_post m' c) _),
      (h c main_v143 rfl).trans (congrFun (Reference.final_post m' c) _), Reference.args_kept m' c r.2.mem (h c)⟩)
    (run_fold m' g)

/-- From the same arguments the kernel and the reference end with the same boxes, scores and classes, over the extended reals. -/
theorem algebraic : Cert.algebraic_KernelIdeal_ReferenceIdeal (hKernelIdeal := Cert.KernelIdeal.Gen.facts) (hReferenceIdeal := Cert.ReferenceIdeal.Gen.facts) :=
  fun m g m' g' _ h => ⟨fun c => KernelIdeal.boxOut (KernelIdeal.afterRegion m c), fun c => KernelIdeal.scoreOut (KernelIdeal.afterRegion m c),
    fun c => KernelIdeal.labOut (KernelIdeal.afterRegion m c), kernel_run m g,
    (θ_run _ _ _).mono (fun r h' c => ⟨(h' c).1.trans (same_box (h c)).symm, (h' c).2.1.trans (same_score (h c)).symm,
      (h' c).2.2.1.trans (same_lab (h c)).symm, (h' c).2.2.2⟩) (reference_run m' g')⟩

end Cert.Proof

end
-- ==== Proof.lean ====
/-
  Hand-written, untrusted. The proof of `Cert.Claim` (proofs.«01_k».proof.Defs): the frames of the kernel, of the kernel read over
  the extended reals and of the reference, and the equality of the results of the last two.
-/
module

public import proofs.«01_k».proof.Defs
public import proofs.«01_k».proof.Proof.KernelRun
public import proofs.«01_k».proof.Proof.KernelIdealRun
public import proofs.«01_k».proof.Proof.ReferenceFrame
public import proofs.«01_k».proof.Proof.Algebraic
public import Idealize.ShloMosaic.Adequacy
public import Idealize.ShloMosaic.Init

@[expose] public section

noncomputable section

namespace Cert.Proof

open Idealize.ShloMosaic Idealize.SL.Sem

/-- The claims of this certificate. -/
theorem claim : Cert.Claim := ⟨Cert.Kernel.Gen.facts, Cert.KernelIdeal.Gen.facts, Cert.ReferenceIdeal.Gen.facts,
  fun m g _ => Kernel.frame m g, fun m g _ => KernelIdeal.frame m g, fun m g _ => Reference.frame m g, trivial, algebraic⟩

end Cert.Proof

end
